-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x8192x4 : Shape := ⟨3, ![64, 8192, 4]⟩
abbrev S_ : Shape := ⟨0, ![]⟩

class Facts : Prop where
  bcast_S_S64x8192x4 : S_.BroadcastsInDim S64x8192x4 (![] : Fin 0 → Fin S64x8192x4.rank)

variable [Facts]

def fn {F : FTy → Type} [FloatOps F] (main_arg0 : FVec F S64x8192x4 .f32) : IVec S64x8192x4 1 :=
  let main_v0 : FVec F S64x8192x4 .f32 := Host.absf main_arg0
  let main_cst : FVec F S_ .f32 := constant S_ .f32 0x7F800000#32
  let main_v1 : FVec F S64x8192x4 .f32 := broadcastInDim S64x8192x4 ![] bcast_S_S64x8192x4 main_cst
  let main_v2 : IVec S64x8192x4 1 := cmpf .olt main_v0 main_v1
  main_v2
-- ==== Kernel.lean ====
abbrev S64x8192x4 : Shape := ⟨3, ![64, 8192, 4]⟩
abbrev S_ : Shape := ⟨0, ![]⟩
abbrev S64x512x16x4 : Shape := ⟨4, ![64, 512, 16, 4]⟩
abbrev S64x4x16x512 : Shape := ⟨4, ![64, 4, 16, 512]⟩
abbrev S64x4x8x512 : Shape := ⟨4, ![64, 4, 8, 512]⟩
abbrev S1x4x16x512 : Shape := ⟨4, ![1, 4, 16, 512]⟩
abbrev S1x4x8x512 : Shape := ⟨4, ![1, 4, 8, 512]⟩
abbrev S1x1x16x512 : Shape := ⟨4, ![1, 1, 16, 512]⟩
abbrev S16x512 : Shape := ⟨2, ![16, 512]⟩
abbrev S8x512 : Shape := ⟨2, ![8, 512]⟩
abbrev S32x512 : Shape := ⟨2, ![32, 512]⟩
abbrev S64x512 : Shape := ⟨2, ![64, 512]⟩
abbrev S128x512 : Shape := ⟨2, ![128, 512]⟩
abbrev S512 : Shape := ⟨1, ![512]⟩
abbrev S1x512 : Shape := ⟨2, ![1, 512]⟩
abbrev S128x128 : Shape := ⟨2, ![128, 128]⟩
abbrev S256x128 : Shape := ⟨2, ![256, 128]⟩
abbrev S1x128 : Shape := ⟨2, ![1, 128]⟩
abbrev S128 : Shape := ⟨1, ![128]⟩
abbrev S64x128 : Shape := ⟨2, ![64, 128]⟩
abbrev S32x128 : Shape := ⟨2, ![32, 128]⟩
abbrev S192x128 : Shape := ⟨2, ![192, 128]⟩
abbrev S16x128 : Shape := ⟨2, ![16, 128]⟩
abbrev S160x128 : Shape := ⟨2, ![160, 128]⟩
abbrev S8x128 : Shape := ⟨2, ![8, 128]⟩
abbrev S48x128 : Shape := ⟨2, ![48, 128]⟩
abbrev S1x1x8x128 : Shape := ⟨4, ![1, 1, 8, 128]⟩
abbrev S64x512x4x8 : Shape := ⟨4, ![64, 512, 4, 8]⟩
abbrev S64x512x32 : Shape := ⟨3, ![64, 512, 32]⟩
abbrev S64x497x32 : Shape := ⟨3, ![64, 497, 32]⟩

abbrev nBuf : Space → Nat
  | .hbm => 10
  | .vmem => 4
  | .smem => 0
  | _ => 0

abbrev bufTy : (tb : Table) → Fin (tcTables nBuf tb) → BufTy
  | .hbm, ⟨0, _⟩ => ⟨S64x8192x4, .f32⟩
  | .hbm, ⟨1, _⟩ => ⟨S_, .i32⟩
  | .hbm, ⟨2, _⟩ => ⟨S_, .f32⟩
  | .hbm, ⟨3, _⟩ => ⟨S64x8192x4, .f32⟩
  | .hbm, ⟨4, _⟩ => ⟨S64x512x16x4, .f32⟩
  | .hbm, ⟨5, _⟩ => ⟨S64x4x16x512, .f32⟩
  | .hbm, ⟨6, _⟩ => ⟨S64x4x8x512, .f32⟩
  | .hbm, ⟨7, _⟩ => ⟨S64x512x4x8, .f32⟩
  | .hbm, ⟨8, _⟩ => ⟨S64x512x32, .f32⟩
  | .hbm, ⟨9, _⟩ => ⟨S64x497x32, .f32⟩
  | .local _ .vmem, ⟨0, _⟩ => ⟨S1x4x16x512, .f32⟩
  | .local _ .vmem, ⟨1, _⟩ => ⟨S1x4x16x512, .f32⟩
  | .local _ .vmem, ⟨2, _⟩ => ⟨S1x4x8x512, .f32⟩
  | .local _ .vmem, ⟨3, _⟩ => ⟨S1x4x8x512, .f32⟩
  | _, _ => ⟨S64x8192x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_off1 (k0_t1 : Fin k0_t1_loop.trips) : Fin 4 → Nat :=
  let c0 : Index := 0#32
  let c0_i32 : BitVec 32 := 0#32
  let c1_i32 : BitVec 32 := 1#32
  let arg3 : BitVec 32 := Scf.iv c0_i32 c1_i32 k0_t1
  let v1 : Index := Scalar.indexCast arg3
  let c0_1 : Index := 0#32
  let c0_2 : Index := 0#32
  ![0, v1.toNat, 0, 0]
def k0_off2 (k0_t1 : Fin k0_t1_loop.trips) : Fin 4 → Nat :=
  let c0_159 : Index := 0#32
  let c0_i32 : BitVec 32 := 0#32
  let c1_i32 : BitVec 32 := 1#32
  let arg3 : BitVec 32 := Scf.iv c0_i32 c1_i32 k0_t1
  let v718 : Index := Scalar.indexCast arg3
  let c0_160 : Index := 0#32
  let c0_161 : Index := 0#32
  ![0, v718.toNat, 0, 0]
def k0_off3 (k0_t1 : Fin k0_t1_loop.trips) : Fin 4 → Nat :=
  let c0_185 : Index := 0#32
  let c0_i32 : BitVec 32 := 0#32
  let c1_i32 : BitVec 32 := 1#32
  let arg3 : BitVec 32 := Scf.iv c0_i32 c1_i32 k0_t1
  let v916 : Index := Scalar.indexCast arg3
  let c0_186 : Index := 0#32
  let c128 : Index := 128#32
  ![0, v916.toNat, 0, 128]
def k0_off4 (k0_t1 : Fin k0_t1_loop.trips) : Fin 4 → Nat :=
  let c0_210 : Index := 0#32
  let c0_i32 : BitVec 32 := 0#32
  let c1_i32 : BitVec 32 := 1#32
  let arg3 : BitVec 32 := Scf.iv c0_i32 c1_i32 k0_t1
  let v1114 : Index := Scalar.indexCast arg3
  let c0_211 : Index := 0#32
  let c256 : Index := 256#32
  ![0, v1114.toNat, 0, 256]
def k0_off5 (k0_t1 : Fin k0_t1_loop.trips) : Fin 4 → Nat :=
  let c0_235 : Index := 0#32
  let c0_i32 : BitVec 32 := 0#32
  let c1_i32 : BitVec 32 := 1#32
  let arg3 : BitVec 32 := Scf.iv c0_i32 c1_i32 k0_t1
  let v1312 : Index := Scalar.indexCast arg3
  let c0_236 : Index := 0#32
  let c384 : Index := 384#32
  ![0, v1312.toNat, 0, 384]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S64x8192x4 : Shape := ⟨3, ![64, 8192, 4]⟩
abbrev S3 : Shape := ⟨1, ![3]⟩
abbrev S497 : Shape := ⟨1, ![497]⟩
abbrev S_ : Shape := ⟨0, ![]⟩
abbrev S497x1 : Shape := ⟨2, ![497, 1]⟩
abbrev S256 : Shape := ⟨1, ![256]⟩
abbrev S1x256 : Shape := ⟨2, ![1, 256]⟩
abbrev S497x256 : Shape := ⟨2, ![497, 256]⟩
abbrev S497x256x1 : Shape := ⟨3, ![497, 256, 1]⟩
abbrev S64x497x256x4 : Shape := ⟨4, ![64, 497, 256, 4]⟩
abbrev S64x497x4 : Shape := ⟨3, ![64, 497, 4]⟩
abbrev S64x497x1x4 : Shape := ⟨4, ![64, 497, 1, 4]⟩
abbrev S3x1 : Shape := ⟨2, ![3, 1]⟩
abbrev S3x64x497x4 : Shape := ⟨4, ![3, 64, 497, 4]⟩
abbrev S1x64x497x4 : Shape := ⟨4, ![1, 64, 497, 4]⟩
abbrev S64x497x4x1 : Shape := ⟨4, ![64, 497, 4, 1]⟩
abbrev S64x497x4x8 : Shape := ⟨4, ![64, 497, 4, 8]⟩
abbrev S64x497x32 : Shape := ⟨3, ![64, 497, 32]⟩

abbrev nBuf : Space → Nat
  | .hbm => 131
  | .vmem => 0
  | .smem => 0
  | _ => 0

abbrev hbmTy0_0 (i : Nat) : BufTy := match i % 128 with
  | 0 => ⟨S64x8192x4, .f32⟩
  | 1 => ⟨S3, .f32⟩
  | 2 => ⟨S497, .i32⟩
  | 3 => ⟨S_, .i32⟩
  | 4 => ⟨S497, .i32⟩
  | 5 => ⟨S497, .i32⟩
  | 6 => ⟨S497x1, .i32⟩
  | 7 => ⟨S256, .i32⟩
  | 8 => ⟨S1x256, .i32⟩
  | 9 => ⟨S497x256, .i32⟩
  | 10 => ⟨S497x256, .i32⟩
  | 11 => ⟨S497x256, .i32⟩
  | 12 => ⟨S_, .i32⟩
  | 13 => ⟨S497x256, .i32⟩
  | 14 => ⟨S497x256, .i1⟩
  | 15 => ⟨S_, .i32⟩
  | 16 => ⟨S497x256, .i32⟩
  | 17 => ⟨S497x256, .i32⟩
  | 18 => ⟨S497x256, .i32⟩
  | 19 => ⟨S497x256x1, .i32⟩
  | 20 => ⟨S64x497x256x4, .f32⟩
  | 21 => ⟨S_, .f32⟩
  | 22 => ⟨S64x497x4, .f32⟩
  | 23 => ⟨S_, .f32⟩
  | 24 => ⟨S64x497x4, .f32⟩
  | 25 => ⟨S64x497x4, .f32⟩
  | 26 => ⟨S_, .i32⟩
  | 27 => ⟨S_, .f32⟩
  | 28 => ⟨S64x497x4, .f32⟩
  | 29 => ⟨S64x497x1x4, .f32⟩
  | 30 => ⟨S_, .f32⟩
  | 31 => ⟨S64x497x1x4, .f32⟩
  | 32 => ⟨S64x497x1x4, .f32⟩
  | 33 => ⟨S64x497x256x4, .f32⟩
  | 34 => ⟨S64x497x256x4, .f32⟩
  | 35 => ⟨S64x497x256x4, .f32⟩
  | 36 => ⟨S_, .f32⟩
  | 37 => ⟨S_, .f32⟩
  | 38 => ⟨S_, .f32⟩
  | 39 => ⟨S_, .f32⟩
  | 40 => ⟨S64x497x4, .f32⟩
  | 41 => ⟨S64x497x4, .f32⟩
  | 42 => ⟨S64x497x4, .f32⟩
  | 43 => ⟨S_, .f32⟩
  | 44 => ⟨S_, .i1⟩
  | 45 => ⟨S_, .f32⟩
  | 46 => ⟨S_, .f32⟩
  | 47 => ⟨S64x497x4, .f32⟩
  | 48 => ⟨S64x497x4, .f32⟩
  | 49 => ⟨S64x497x4, .f32⟩
  | 50 => ⟨S_, .f32⟩
  | 51 => ⟨S64x497x4, .f32⟩
  | 52 => ⟨S_, .f32⟩
  | 53 => ⟨S64x497x4, .f32⟩
  | 54 => ⟨S64x497x256x4, .i1⟩
  | 55 => ⟨S_, .i1⟩
  | 56 => ⟨S64x497x4, .i1⟩
  | 57 => ⟨S64x497x1x4, .i1⟩
  | 58 => ⟨S_, .f32⟩
  | 59 => ⟨S_, .f32⟩
  | 60 => ⟨S64x497x256x4, .i1⟩
  | 61 => ⟨S64x497x256x4, .f32⟩
  | 62 => ⟨S64x497x256x4, .f32⟩
  | 63 => ⟨S64x497x256x4, .f32⟩
  | 64 => ⟨S_, .f32⟩
  | 65 => ⟨S_, .f32⟩
  | 66 => ⟨S_, .f32⟩
  | 67 => ⟨S3, .f32⟩
  | 68 => ⟨S3, .f32⟩
  | 69 => ⟨S3, .f32⟩
  | 70 => ⟨S3, .f32⟩
  | 71 => ⟨S3, .f32⟩
  | 72 => ⟨S_, .f32⟩
  | 73 => ⟨S3, .f32⟩
  | 74 => ⟨S3, .f32⟩
  | 75 => ⟨S_, .f32⟩
  | 76 => ⟨S_, .f32⟩
  | 77 => ⟨S_, .f32⟩
  | 78 => ⟨S_, .f32⟩
  | 79 => ⟨S3, .f32⟩
  | 80 => ⟨S3, .f32⟩
  | 81 => ⟨S3, .f32⟩
  | 82 => ⟨S_, .f32⟩
  | 83 => ⟨S_, .f32⟩
  | 84 => ⟨S_, .f32⟩
  | 85 => ⟨S_, .f32⟩
  | 86 => ⟨S3, .f32⟩
  | 87 => ⟨S3, .f32⟩
  | 88 => ⟨S3, .f32⟩
  | 89 => ⟨S3, .i32⟩
  | 90 => ⟨S3, .i32⟩
  | 91 => ⟨S3x1, .i32⟩
  | 92 => ⟨S3x64x497x4, .f32⟩
  | 93 => ⟨S3x1, .i32⟩
  | 94 => ⟨S3x64x497x4, .f32⟩
  | 95 => ⟨S3x64x497x4, .f32⟩
  | 96 => ⟨S3x64x497x4, .f32⟩
  | 97 => ⟨S3x64x497x4, .f32⟩
  | 98 => ⟨S3x64x497x4, .f32⟩
  | 99 => ⟨S3x64x497x4, .f32⟩
  | 100 => ⟨S1x64x497x4, .f32⟩
  | 101 => ⟨S64x497x4, .f32⟩
  | 102 => ⟨S1x64x497x4, .f32⟩
  | 103 => ⟨S64x497x4, .f32⟩
  | 104 => ⟨S1x64x497x4, .f32⟩
  | 105 => ⟨S64x497x4, .f32⟩
  | 106 => ⟨S64x497x4, .f32⟩
  | 107 => ⟨S64x497x1x4, .f32⟩
  | 108 => ⟨S64x497x256x4, .f32⟩
  | 109 => ⟨S64x497x256x4, .i1⟩
  | 110 => ⟨S64x497x256x4, .i32⟩
  | 111 => ⟨S_, .i32⟩
  | 112 => ⟨S64x497x4, .i32⟩
  | 113 => ⟨S64x497x4, .f32⟩
  | 114 => ⟨S64x497x1x4, .f32⟩
  | 115 => ⟨S64x497x256x4, .f32⟩
  | 116 => ⟨S64x497x256x4, .i1⟩
  | 117 => ⟨S64x497x256x4, .i32⟩
  | 118 => ⟨S_, .i32⟩
  | 119 => ⟨S64x497x4, .i32⟩
  | 120 => ⟨S64x497x4, .f32⟩
  | 121 => ⟨S64x497x4x1, .f32⟩
  | 122 => ⟨S64x497x4x1, .f32⟩
  | 123 => ⟨S64x497x4x1, .f32⟩
  | 124 => ⟨S64x497x4x1, .f32⟩
  | 125 => ⟨S64x497x4x1, .f32⟩
  | 126 => ⟨S64x497x4x1, .f32⟩
  | 127 => ⟨S64x497x4x1, .f32⟩
  | _ => ⟨S64x8192x4, .f32⟩

abbrev hbmTy0_1 (i : Nat) : BufTy := match i % 128 with
  | 0 => ⟨S64x497x4x1, .f32⟩
  | 1 => ⟨S64x497x4x8, .f32⟩
  | 2 => ⟨S64x497x32, .f32⟩
  | _ => ⟨S64x8192x4, .f32⟩

abbrev hbmTy (i : Nat) : BufTy := match i / 128 with
  | 0 => hbmTy0_0 i
  | 1 => hbmTy0_1 i
  | _ => ⟨S64x8192x4, .f32⟩

abbrev bufTy : (tb : Table) → Fin (tcTables nBuf tb) → BufTy
  | .hbm, ⟨i, _⟩ => hbmTy i
  | _, _ => ⟨S64x8192x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_c_4 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_cst_0 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_cst_1 : Ref sig .tc := ⟨.hbm, 37, rfl⟩
abbrev main_call0_call0_v8 : Ref sig .tc := ⟨.hbm, 38, rfl⟩
abbrev main_call0_call0_cst_2 : Ref sig .tc := ⟨.hbm, 39, rfl⟩
abbrev main_call0_call0_v9 : Ref sig .tc := ⟨.hbm, 40, rfl⟩
abbrev main_call0_call0_v10 : Ref sig .tc := ⟨.hbm, 41, rfl⟩
abbrev main_call0_call0_v11 : Ref sig .tc := ⟨.hbm, 42, rfl⟩
abbrev main_call0_call0_cst_3 : Ref sig .tc := ⟨.hbm, 43, rfl⟩
abbrev main_call0_call0_v12 : Ref sig .tc := ⟨.hbm, 44, rfl⟩
abbrev main_call0_call0_cst_4 : Ref sig .tc := ⟨.hbm, 45, rfl⟩
abbrev main_call0_call0_call0_v0 : Ref sig .tc := ⟨.hbm, 46, rfl⟩
abbrev main_call0_call0_call0_v1 : Ref sig .tc := ⟨.hbm, 47, rfl⟩
abbrev main_call0_v0 : Ref sig .tc := ⟨.hbm, 48, rfl⟩
abbrev main_v19 : Ref sig .tc := ⟨.hbm, 49, rfl⟩
abbrev main_cst_5 : Ref sig .tc := ⟨.hbm, 50, rfl⟩
abbrev main_v20 : Ref sig .tc := ⟨.hbm, 51, rfl⟩
abbrev main_cst_6 : Ref sig .tc := ⟨.hbm, 52, rfl⟩
abbrev main_v21 : Ref sig .tc := ⟨.hbm, 53, rfl⟩
abbrev main_call1_v0 : Ref sig .tc := ⟨.hbm, 54, rfl⟩
abbrev main_call1_c : Ref sig .tc := ⟨.hbm, 55, rfl⟩
abbrev main_call1_v1 : Ref sig .tc := ⟨.hbm, 56, rfl⟩
abbrev main_call1_v2 : Ref sig .tc := ⟨.hbm, 57, rfl⟩
abbrev main_call1_cst : Ref sig .tc := ⟨.hbm, 58, rfl⟩
abbrev main_call1_call0_v0 : Ref sig .tc := ⟨.hbm, 59, rfl⟩
abbrev main_call1_call0_v1 : Ref sig .tc := ⟨.hbm, 60, rfl⟩
abbrev main_call1_call0_v2 : Ref sig .tc := ⟨.hbm, 61, rfl⟩
abbrev main_call1_v3 : Ref sig .tc := ⟨.hbm, 62, rfl⟩
abbrev main_call1_v4 : Ref sig .tc := ⟨.hbm, 63, rfl⟩
abbrev main_call1_cst_0 : Ref sig .tc := ⟨.hbm, 64, rfl⟩
abbrev main_call1_cst_1 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_cst_2 : Ref sig .tc := ⟨.hbm, 72, rfl⟩
abbrev main_call1_v11 : Ref sig .tc := ⟨.hbm, 73, rfl⟩
abbrev main_call1_v12 : Ref sig .tc := ⟨.hbm, 74, rfl⟩
abbrev main_call1_cst_3 : Ref sig .tc := ⟨.hbm, 75, rfl⟩
abbrev main_call1_cst_4 : Ref sig .tc := ⟨.hbm, 76, rfl⟩
abbrev main_call1_v13 : Ref sig .tc := ⟨.hbm, 77, rfl⟩
abbrev main_call1_cst_5 : Ref sig .tc := ⟨.hbm, 78, rfl⟩
abbrev main_call1_v14 : Ref sig .tc := ⟨.hbm, 79, rfl⟩
abbrev main_call1_v15 : Ref sig .tc := ⟨.hbm, 80, rfl⟩
abbrev main_call1_v16 : Ref sig .tc := ⟨.hbm, 81, rfl⟩
abbrev main_call1_cst_6 : Ref sig .tc := ⟨.hbm, 82, rfl⟩
abbrev main_call1_cst_7 : Ref sig .tc := ⟨.hbm, 83, rfl⟩
abbrev main_call1_v17 : Ref sig .tc := ⟨.hbm, 84, rfl⟩
abbrev main_call1_cst_8 : Ref sig .tc := ⟨.hbm, 85, rfl⟩
abbrev main_call1_v18 : Ref sig .tc := ⟨.hbm, 86, rfl⟩
abbrev main_call1_v19 : Ref sig .tc := ⟨.hbm, 87, rfl⟩
abbrev main_call1_v20 : Ref sig .tc := ⟨.hbm, 88, rfl⟩
abbrev main_call1_v21 : Ref sig .tc := ⟨.hbm, 89, rfl⟩
abbrev main_call1_v22 : Ref sig .tc := ⟨.hbm, 90, rfl⟩
abbrev main_call1_v23 : Ref sig .tc := ⟨.hbm, 91, rfl⟩
abbrev main_call1_v24 : Ref sig .tc := ⟨.hbm, 92, rfl⟩
abbrev main_call1_v25 : Ref sig .tc := ⟨.hbm, 93, rfl⟩
abbrev main_call1_v26 : Ref sig .tc := ⟨.hbm, 94, rfl⟩
abbrev main_call1_v27 : Ref sig .tc := ⟨.hbm, 95, rfl⟩
abbrev main_call1_v28 : Ref sig .tc := ⟨.hbm, 96, rfl⟩
abbrev main_call1_v29 : Ref sig .tc := ⟨.hbm, 97, rfl⟩
abbrev main_call1_v30 : Ref sig .tc := ⟨.hbm, 98, rfl⟩
abbrev main_v22 : Ref sig .tc := ⟨.hbm, 99, rfl⟩
abbrev main_v23 : Ref sig .tc := ⟨.hbm, 100, rfl⟩
abbrev main_v24 : Ref sig .tc := ⟨.hbm, 101, rfl⟩
abbrev main_v25 : Ref sig .tc := ⟨.hbm, 102, rfl⟩
abbrev main_v26 : Ref sig .tc := ⟨.hbm, 103, rfl⟩
abbrev main_v27 : Ref sig .tc := ⟨.hbm, 104, rfl⟩
abbrev main_v28 : Ref sig .tc := ⟨.hbm, 105, rfl⟩
abbrev main_v29 : Ref sig .tc := ⟨.hbm, 106, rfl⟩
abbrev main_v30 : Ref sig .tc := ⟨.hbm, 107, rfl⟩
abbrev main_v31 : Ref sig .tc := ⟨.hbm, 108, rfl⟩
abbrev main_v32 : Ref sig .tc := ⟨.hbm, 109, rfl⟩
abbrev main_v33 : Ref sig .tc := ⟨.hbm, 110, rfl⟩
abbrev main_c_7 : Ref sig .tc := ⟨.hbm, 111, rfl⟩
abbrev main_v34 : Ref sig .tc := ⟨.hbm, 112, rfl⟩
abbrev main_v35 : Ref sig .tc := ⟨.hbm, 113, rfl⟩
abbrev main_v36 : Ref sig .tc := ⟨.hbm, 114, rfl⟩
abbrev main_v37 : Ref sig .tc := ⟨.hbm, 115, rfl⟩
abbrev main_v38 : Ref sig .tc := ⟨.hbm, 116, rfl⟩
abbrev main_v39 : Ref sig .tc := ⟨.hbm, 117, rfl⟩
abbrev main_c_8 : Ref sig .tc := ⟨.hbm, 118, rfl⟩
abbrev main_v40 : Ref sig .tc := ⟨.hbm, 119, rfl⟩
abbrev main_v41 : Ref sig .tc := ⟨.hbm, 120, rfl⟩
abbrev main_v42 : Ref sig .tc := ⟨.hbm, 121, rfl⟩
abbrev main_v43 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev main_v50 : Ref sig .tc := ⟨.hbm, 129, rfl⟩
abbrev main_v51 : Ref sig .tc := ⟨.hbm, 130, rfl⟩

abbrev nD : Nat := 1
abbrev τ : Topo := Topo.v7x

variable {F : FTy → Type} [FloatOps F]
-- ==== Proof.Sort.lean ====
/- Bitonic merging of columns: a stage of compare-exchanges, the networks made of stages, that they sort, and that they
   keep the multiset of the values. Columns are functions of the row number; a network of `n` rows reads and writes the
   rows below `n`. -/
module

public import Mathlib.Order.Lattice
public import Mathlib.Order.BooleanAlgebra.Basic
public import Mathlib.Data.Multiset.Range
public import Mathlib.Data.Multiset.Sort
public import Mathlib.Data.List.Sort
public import Mathlib.Tactic.Ring
public import Mathlib.Tactic.NormNum
public import Mathlib.Tactic.Positivity
public import Mathlib.Algebra.Order.Ring.Nat

@[expose] public section

namespace Cert.Proof.Sort

/-- One stage of compare-exchanges at distance `j`: a row whose number has the `j` bit clear meets the row `j` below it;
    the smaller value goes to the upper row, or to the lower row where `d` is true. -/
def cx {α : Type} [Lattice α] (d : ℕ → Bool) (j : ℕ) (x : ℕ → α) (i : ℕ) : α :=
  if i / j % 2 = 0 then (if d i then x i ⊔ x (i + j) else x i ⊓ x (i + j))
  else (if d i then x i ⊓ x (i - j) else x i ⊔ x (i - j))

/-- The stages at distances `2^(k-1)`, …, `2`, `1`. -/
def net {α : Type} [Lattice α] (d : ℕ → Bool) : ℕ → (ℕ → α) → (ℕ → α)
  | 0, x => x
  | k + 1, x => net d k (cx d (2 ^ k) x)

/-- The direction of a stage that sorts upwards everywhere. -/
def up : ℕ → Bool := fun _ => false

/-- The direction that alternates from one block of `k` rows to the next. -/
def alt (k : ℕ) : ℕ → Bool := fun i => decide (i / k % 2 = 1)

/-- Two columns of `m` rows, the second upside down below the first. -/
def join {α : Type} (m : ℕ) (p q : ℕ → α) (i : ℕ) : α := if i < m then p i else q (2 * m - 1 - i)

section Blocks

variable {α : Type} [Lattice α] (d : ℕ → Bool) (x : ℕ → α)

theorem low_half {j q i : ℕ} (h : i < j) : (q * (2 * j) + i) / j % 2 = 0 := by
  have e : q * (2 * j) + i = j * (2 * q) + i := by ring
  rw [e, Nat.mul_add_div (by omega), Nat.div_eq_of_lt h]; omega

theorem high_half {j q i : ℕ} (h : i < j) : (q * (2 * j) + j + i) / j % 2 = 1 := by
  have e : q * (2 * j) + j + i = j * (2 * q + 1) + i := by ring
  rw [e, Nat.mul_add_div (by omega), Nat.div_eq_of_lt h]; omega

theorem cx_low {j q i : ℕ} (h : i < j) : cx d j x (q * (2 * j) + i)
    = if d (q * (2 * j) + i) then x (q * (2 * j) + i) ⊔ x (q * (2 * j) + j + i)
      else x (q * (2 * j) + i) ⊓ x (q * (2 * j) + j + i) := by
  unfold cx; rw [if_pos (low_half h), show q * (2 * j) + i + j = q * (2 * j) + j + i by omega]

theorem cx_high {j q i : ℕ} (h : i < j) : cx d j x (q * (2 * j) + j + i)
    = if d (q * (2 * j) + j + i) then x (q * (2 * j) + j + i) ⊓ x (q * (2 * j) + i)
      else x (q * (2 * j) + j + i) ⊔ x (q * (2 * j) + i) := by
  unfold cx
  rw [if_neg (by rw [high_half h]; decide), show q * (2 * j) + j + i - j = q * (2 * j) + i by omega]

/-- A stage of a part of a column is the part of the stage, where the part keeps partners together. -/
theorem cx_part {j : ℕ} {φ : ℕ → ℕ} (h : ∀ i, φ i / j % 2 = i / j % 2)
    (hl : ∀ i, i / j % 2 = 0 → φ (i + j) = φ i + j) (hh : ∀ i, i / j % 2 = 1 → φ (i - j) = φ i - j) :
    cx up j (fun r => x (φ r)) = fun i => cx up j x (φ i) := by
  funext i
  unfold cx
  beta_reduce
  rw [h i]
  by_cases e : i / j % 2 = 0
  · rw [if_pos e, if_pos e, hl i e]; rfl
  · rw [if_neg e, if_neg e, hh i (by omega)]; rfl

/-- Every row below a multiple of `2 * j` stands in the upper or the lower half of a block. -/
theorem halves {j : ℕ} (hj : 0 < j) (i : ℕ) :
    (∃ q r, r < j ∧ i = q * (2 * j) + r) ∨ (∃ q r, r < j ∧ i = q * (2 * j) + j + r) := by
  have h := Nat.div_add_mod i (2 * j)
  have hl := Nat.mod_lt i (show 0 < 2 * j by omega)
  rw [Nat.mul_comm] at h
  by_cases hr : i % (2 * j) < j
  · exact .inl ⟨i / (2 * j), i % (2 * j), hr, h.symm⟩
  · exact .inr ⟨i / (2 * j), i % (2 * j) - j, by omega, by omega⟩

/-- A block whose values are all equal stays so. -/
theorem net_const (c : α) (k : ℕ) : ∀ (x : ℕ → α) (q : ℕ), (∀ i < 2 ^ k, x (q * 2 ^ k + i) = c) →
    ∀ i < 2 ^ k, net d k x (q * 2 ^ k + i) = c := by
  induction k with
  | zero => intro x q h; simpa [net] using h
  | succ k ih =>
    intro x q h
    have e : (2 : ℕ) ^ (k + 1) = 2 * 2 ^ k := by ring
    rw [e] at h ⊢
    have hl : ∀ i < 2 ^ k, cx d (2 ^ k) x (q * (2 * 2 ^ k) + i) = c := fun i hi => by
      rw [cx_low d x hi, h i (by omega), Nat.add_assoc, h _ (by omega)]; simp
    have hh : ∀ i < 2 ^ k, cx d (2 ^ k) x (q * (2 * 2 ^ k) + 2 ^ k + i) = c := fun i hi => by
      rw [cx_high d x hi, h i (by omega), Nat.add_assoc, h _ (by omega)]; simp
    intro i hi
    by_cases hik : i < 2 ^ k
    · have := ih (cx d (2 ^ k) x) (2 * q) (fun i hi => by
        rw [show 2 * q * 2 ^ k = q * (2 * 2 ^ k) by ring]; exact hl i hi) i hik
      rwa [show 2 * q * 2 ^ k = q * (2 * 2 ^ k) by ring] at this
    · have := ih (cx d (2 ^ k) x) (2 * q + 1) (fun i hi => by
        rw [show (2 * q + 1) * 2 ^ k = q * (2 * 2 ^ k) + 2 ^ k by ring]; exact hh i hi) (i - 2 ^ k) (by omega)
      rw [show (2 * q + 1) * 2 ^ k = q * (2 * 2 ^ k) + 2 ^ k by ring] at this
      rwa [show q * (2 * 2 ^ k) + 2 ^ k + (i - 2 ^ k) = q * (2 * 2 ^ k) + i by omega] at this

end Blocks

/-! ## Columns of truth values -/

/-- The rows of a block where the column is true, or those where it is false, are consecutive. -/
def Bit (x : ℕ → Prop) (o n : ℕ) : Prop :=
  ∃ a b, a ≤ b ∧ b ≤ n ∧ ((∀ i < n, x (o + i) ↔ (a ≤ i ∧ i < b)) ∨ (∀ i < n, x (o + i) ↔ ¬(a ≤ i ∧ i < b)))

/-- A block is false down to some row and true from there on. -/
def Up (x : ℕ → Prop) (o n : ℕ) : Prop := ∃ a, a ≤ n ∧ ∀ i < n, x (o + i) ↔ a ≤ i

/-- A block is true down to some row and false from there on. -/
def Down (x : ℕ → Prop) (o n : ℕ) : Prop := ∃ a, a ≤ n ∧ ∀ i < n, x (o + i) ↔ i < a

theorem Bit.congr {x y : ℕ → Prop} {o o' n : ℕ} (h : Bit x o n) (e : ∀ i < n, y (o' + i) ↔ x (o + i)) : Bit y o' n := by
  obtain ⟨a, b, hab, hb, h | h⟩ := h
  · exact ⟨a, b, hab, hb, .inl fun i hi => (e i hi).trans (h i hi)⟩
  · exact ⟨a, b, hab, hb, .inr fun i hi => (e i hi).trans (h i hi)⟩

theorem Bit.compl {x : ℕ → Prop} {o n : ℕ} (h : Bit x o n) : Bit (fun i => ¬ x i) o n := by
  obtain ⟨a, b, hab, hb, h | h⟩ := h
  · exact ⟨a, b, hab, hb, .inr fun i hi => not_congr (h i hi)⟩
  · exact ⟨a, b, hab, hb, .inl fun i hi => (not_congr (h i hi)).trans not_not⟩

theorem bit_two (x : ℕ → Prop) (o : ℕ) : Bit x o 2 := by
  by_cases h0 : x o <;> by_cases h1 : x (o + 1)
  · exact ⟨0, 2, by omega, by omega, .inl fun i hi => by
      obtain rfl | rfl : i = 0 ∨ i = 1 := by omega
      all_goals simp [h0, h1]⟩
  · exact ⟨0, 1, by omega, by omega, .inl fun i hi => by
      obtain rfl | rfl : i = 0 ∨ i = 1 := by omega
      all_goals simp [h0, h1]⟩
  · exact ⟨0, 1, by omega, by omega, .inr fun i hi => by
      obtain rfl | rfl : i = 0 ∨ i = 1 := by omega
      all_goals simp [h0, h1]⟩
  · exact ⟨0, 0, by omega, by omega, .inl fun i hi => by
      obtain rfl | rfl : i = 0 ∨ i = 1 := by omega
      all_goals simp [h0, h1]⟩

/-- The upper half's conjunctions and the lower half's disjunctions of a bitonic block are bitonic, and one of the two
    halves is constant. -/
theorem half_clean (x : ℕ → Prop) (o j : ℕ) (h : Bit x o (2 * j)) :
    Bit (fun i => x (o + i) ∧ x (o + j + i)) 0 j ∧ Bit (fun i => x (o + j + i) ∨ x (o + i)) 0 j
      ∧ ((∀ i < j, ¬ (x (o + i) ∧ x (o + j + i))) ∨ (∀ i < j, x (o + j + i) ∨ x (o + i))) := by
  obtain ⟨a, b, hab, hb, h | h⟩ := h
  · have hl : ∀ i < j, (x (o + i) ↔ (a ≤ i ∧ i < b)) := fun i hi => h i (by omega)
    have hu : ∀ i < j, (x (o + j + i) ↔ (a ≤ j + i ∧ j + i < b)) := fun i hi => by
      rw [Nat.add_assoc]; exact h (j + i) (by omega)
    refine ⟨?_, ?_, ?_⟩
    · rcases Nat.lt_or_ge (b - j) a with hc | hc
      · exact ⟨0, 0, by omega, by omega, .inl fun i hi => by
          simp only [Nat.zero_add]; rw [hl i hi, hu i hi]; constructor <;> intro <;> omega⟩
      · exact ⟨a, max a (min j (b - j)), by omega, by omega, .inl fun i hi => by
          simp only [Nat.zero_add]; rw [hl i hi, hu i hi]; constructor <;> intro <;> omega⟩
    · by_cases h1 : b ≤ j
      · exact ⟨a, b, by omega, by omega, .inl fun i hi => by
          simp only [Nat.zero_add]; rw [hl i hi, hu i hi]; constructor <;> intro <;> omega⟩
      · by_cases h2 : j ≤ a
        · exact ⟨a - j, b - j, by omega, by omega, .inl fun i hi => by
            simp only [Nat.zero_add]; rw [hl i hi, hu i hi]; constructor <;> intro <;> omega⟩
        · exact ⟨b - j, max (b - j) a, by omega, by omega, .inr fun i hi => by
            simp only [Nat.zero_add]; rw [hl i hi, hu i hi]; constructor <;> intro <;> omega⟩
    · by_cases hc : b - j ≤ a
      · exact .inl fun i hi => by rw [hl i hi, hu i hi]; omega
      · exact .inr fun i hi => by rw [hl i hi, hu i hi]; omega
  · have hl : ∀ i < j, (x (o + i) ↔ ¬(a ≤ i ∧ i < b)) := fun i hi => h i (by omega)
    have hu : ∀ i < j, (x (o + j + i) ↔ ¬(a ≤ j + i ∧ j + i < b)) := fun i hi => by
      rw [Nat.add_assoc]; exact h (j + i) (by omega)
    refine ⟨?_, ?_, ?_⟩
    · by_cases h1 : b ≤ j
      · exact ⟨a, b, by omega, by omega, .inr fun i hi => by
          simp only [Nat.zero_add]; rw [hl i hi, hu i hi]; constructor <;> intro <;> omega⟩
      · by_cases h2 : j ≤ a
        · exact ⟨a - j, b - j, by omega, by omega, .inr fun i hi => by
            simp only [Nat.zero_add]; rw [hl i hi, hu i hi]; constructor <;> intro <;> omega⟩
        · exact ⟨b - j, max (b - j) a, by omega, by omega, .inl fun i hi => by
            simp only [Nat.zero_add]; rw [hl i hi, hu i hi]; constructor <;> intro <;> omega⟩
    · rcases Nat.lt_or_ge (b - j) a with hc | hc
      · exact ⟨0, 0, by omega, by omega, .inr fun i hi => by
          simp only [Nat.zero_add]; rw [hl i hi, hu i hi]; constructor <;> intro <;> omega⟩
      · exact ⟨a, max a (min j (b - j)), by omega, by omega, .inr fun i hi => by
          simp only [Nat.zero_add]; rw [hl i hi, hu i hi]; constructor <;> intro <;> omega⟩
    · by_cases hc : b - j ≤ a
      · exact .inr fun i hi => by rw [hl i hi, hu i hi]; omega
      · exact .inl fun i hi => by rw [hl i hi, hu i hi]; omega

/-- The stages from `2^(k-1)` down to `1` sort a bitonic block of `2^k` rows. -/
theorem net_up (d : ℕ → Bool) (k : ℕ) : ∀ (x : ℕ → Prop) (q : ℕ), (∀ i < 2 ^ k, d (q * 2 ^ k + i) = false) →
    Bit x (q * 2 ^ k) (2 ^ k) → Up (net d k x) (q * 2 ^ k) (2 ^ k) := by
  induction k with
  | zero =>
    intro x q _ _
    by_cases h : x q
    · exact ⟨0, by omega, fun i hi => by
        obtain rfl : i = 0 := by simpa using hi
        simpa [net] using h⟩
    · exact ⟨1, by simp, fun i hi => by
        obtain rfl : i = 0 := by simpa using hi
        simpa [net] using h⟩
  | succ k ih =>
    intro x q hd hx
    have e : (2 : ℕ) ^ (k + 1) = 2 * 2 ^ k := by ring
    rw [e] at hd hx ⊢
    have e0 : 2 * q * 2 ^ k = q * (2 * 2 ^ k) := by ring
    have e1 : (2 * q + 1) * 2 ^ k = q * (2 * 2 ^ k) + 2 ^ k := by ring
    have hl : ∀ i < 2 ^ k, cx d (2 ^ k) x (q * (2 * 2 ^ k) + i)
        = (x (q * (2 * 2 ^ k) + i) ∧ x (q * (2 * 2 ^ k) + 2 ^ k + i)) := fun i hi => by
      rw [cx_low d x hi, hd i (by omega)]; rfl
    have hh : ∀ i < 2 ^ k, cx d (2 ^ k) x (q * (2 * 2 ^ k) + 2 ^ k + i)
        = (x (q * (2 * 2 ^ k) + 2 ^ k + i) ∨ x (q * (2 * 2 ^ k) + i)) := fun i hi => by
      rw [cx_high d x hi, Nat.add_assoc, hd _ (by omega)]; rfl
    obtain ⟨b0, b1, hc⟩ := half_clean x _ _ hx
    obtain ⟨a0, ha0, u0⟩ := ih (cx d (2 ^ k) x) (2 * q) (fun i hi => by rw [e0]; exact hd i (by omega))
      (b0.congr fun i hi => by rw [e0, hl i hi, Nat.zero_add])
    obtain ⟨a1, ha1, u1⟩ := ih (cx d (2 ^ k) x) (2 * q + 1) (fun i hi => by rw [e1, Nat.add_assoc]; exact hd _ (by omega))
      (b1.congr fun i hi => by rw [e1, hh i hi, Nat.zero_add])
    rw [e0] at u0
    rw [e1] at u1
    have split : ∀ i < 2 * 2 ^ k, i < 2 ^ k ∨ ∃ i', i' < 2 ^ k ∧ i = 2 ^ k + i' := fun i hi => by
      by_cases h : i < 2 ^ k
      · exact .inl h
      · exact .inr ⟨i - 2 ^ k, by omega, by omega⟩
    rcases hc with hc | hc
    · have z := net_const d False k (cx d (2 ^ k) x) (2 * q) (fun i hi => by
        rw [e0, hl i hi]; exact eq_false (hc i hi))
      rw [e0] at z
      refine ⟨2 ^ k + a1, by omega, fun i hi => ?_⟩
      rcases split i hi with h | ⟨i', h, rfl⟩
      · show net d k (cx d (2 ^ k) x) _ ↔ _
        rw [z i h]; simp only [false_iff]; omega
      · show net d k (cx d (2 ^ k) x) _ ↔ _
        rw [← Nat.add_assoc, u1 i' h]; omega
    · have z := net_const d True k (cx d (2 ^ k) x) (2 * q + 1) (fun i hi => by
        rw [e1, hh i hi]; exact eq_true (hc i hi))
      rw [e1] at z
      refine ⟨a0, by omega, fun i hi => ?_⟩
      rcases split i hi with h | ⟨i', h, rfl⟩
      · show net d k (cx d (2 ^ k) x) _ ↔ _
        rw [u0 i h]
      · show net d k (cx d (2 ^ k) x) _ ↔ _
        rw [← Nat.add_assoc, z i' h]; simp only [true_iff]; omega

theorem cx_compl (d : ℕ → Bool) (j : ℕ) (x : ℕ → Prop) :
    cx (fun i => !d i) j (fun i => ¬ x i) = fun i => ¬ cx d j x i := by
  funext i
  unfold cx
  by_cases h : i / j % 2 = 0 <;> cases hd : d i <;> simp [h, hd] <;> tauto

theorem net_compl (d : ℕ → Bool) (k : ℕ) : ∀ x : ℕ → Prop,
    net (fun i => !d i) k (fun i => ¬ x i) = fun i => ¬ net d k x i := by
  induction k with
  | zero => intro x; rfl
  | succ k ih => intro x; show net _ k (cx _ _ _) = _; rw [cx_compl, ih]; rfl

theorem net_down (d : ℕ → Bool) (k : ℕ) (x : ℕ → Prop) (q : ℕ) (hd : ∀ i < 2 ^ k, d (q * 2 ^ k + i) = true)
    (hx : Bit x (q * 2 ^ k) (2 ^ k)) : Down (net d k x) (q * 2 ^ k) (2 ^ k) := by
  obtain ⟨a, ha, h⟩ := net_up (fun i => !d i) k (fun i => ¬ x i) q (fun i hi => by simp [hd i hi]) hx.compl
  rw [net_compl] at h
  exact ⟨a, ha, fun i hi => by have := not_congr (h i hi); simp only [not_not] at this; rw [this]; omega⟩

/-- A sorted block and, below it, a block sorted the other way round are one bitonic block. -/
theorem bit_of_up_down {x : ℕ → Prop} {o n : ℕ} (hu : Up x o n) (hd : Down x (o + n) n) : Bit x o (2 * n) := by
  obtain ⟨a, ha, hu⟩ := hu
  obtain ⟨b, hb, hd⟩ := hd
  refine ⟨a, n + b, by omega, by omega, .inl fun i hi => ?_⟩
  by_cases h : i < n
  · rw [hu i h]; omega
  · have := hd (i - n) (by omega)
    rw [show o + n + (i - n) = o + i by omega] at this
    rw [this]; omega

/-- Alternating stages turn bitonic blocks of `2^k` rows into bitonic blocks of twice the length. -/
theorem net_alt (k : ℕ) (x : ℕ → Prop) (h : ∀ q, Bit x (q * 2 ^ k) (2 ^ k)) (q : ℕ) :
    Bit (net (alt (2 ^ k)) k x) (q * 2 ^ (k + 1)) (2 ^ (k + 1)) := by
  have hp : 0 < 2 ^ k := by positivity
  have e : (2 : ℕ) ^ (k + 1) = 2 * 2 ^ k := by ring
  have hu := net_up (alt (2 ^ k)) k x (2 * q) (fun i hi => by
    unfold alt
    rw [show 2 * q * 2 ^ k = q * (2 * 2 ^ k) by ring, low_half hi]; rfl) (h _)
  have hd := net_down (alt (2 ^ k)) k x (2 * q + 1) (fun i hi => by
    unfold alt
    rw [show (2 * q + 1) * 2 ^ k = q * (2 * 2 ^ k) + 2 ^ k by ring, high_half hi]; rfl) (h _)
  rw [e, show q * (2 * 2 ^ k) = 2 * q * 2 ^ k by ring]
  refine bit_of_up_down hu ?_
  rwa [show 2 * q * 2 ^ k + 2 ^ k = (2 * q + 1) * 2 ^ k by ring]

/-- Two sorted columns joined are bitonic. -/
theorem bit_join {m : ℕ} {p q : ℕ → Prop} (hp : Up p 0 m) (hq : Up q 0 m) : Bit (join m p q) 0 (2 * m) := by
  refine bit_of_up_down (hp.imp fun a h => ⟨h.1, fun i hi => ?_⟩) ?_
  · rw [← h.2 i hi]; unfold join; rw [if_pos (by omega)]
  · obtain ⟨a, ha, hq⟩ := hq
    refine ⟨m - a, by omega, fun i hi => ?_⟩
    unfold join
    rw [if_neg (by omega)]
    have := hq (2 * m - 1 - (0 + m + i)) (by omega)
    rw [Nat.zero_add] at this
    rw [this]; omega

/-! ## Thresholds -/

section Thr

variable {α : Type} [LinearOrder α]

theorem thr_cx (t : α) (d : ℕ → Bool) (j : ℕ) (x : ℕ → α) :
    (fun i => t ≤ cx d j x i) = cx d j (fun i => t ≤ x i) := by
  funext i
  unfold cx
  split_ifs
  all_goals first | exact propext le_sup_iff | exact propext le_inf_iff

theorem thr_net (t : α) (d : ℕ → Bool) (k : ℕ) : ∀ x : ℕ → α,
    (fun i => t ≤ net d k x i) = net d k (fun i => t ≤ x i) := by
  induction k with
  | zero => intro x; rfl
  | succ k ih => intro x; show (fun i => t ≤ net d k (cx d (2 ^ k) x) i) = _; rw [ih, thr_cx]; rfl

theorem thr_join (t : α) (m : ℕ) (p q : ℕ → α) :
    (fun i => t ≤ join m p q i) = join m (fun i => t ≤ p i) (fun i => t ≤ q i) := by
  funext i; unfold join; split_ifs <;> rfl

/-- The first `n` rows are in order. -/
def Sorted (n : ℕ) (x : ℕ → α) : Prop := ∀ t : α, Up (fun i => t ≤ x i) 0 n

theorem Sorted.mono {n : ℕ} {x : ℕ → α} (h : Sorted n x) {i i' : ℕ} (hi : i ≤ i') (hn : i' < n) : x i ≤ x i' := by
  obtain ⟨a, _, ha⟩ := h (x i)
  have h0 := (ha i (by omega)).1 (by rw [Nat.zero_add])
  have h1 := (ha i' hn).2 (by omega)
  rwa [Nat.zero_add] at h1

/-- The network that sorts columns of sixteen rows. -/
def net16 (x : ℕ → α) : ℕ → α := net up 4 (net (alt 8) 3 (net (alt 4) 2 (net (alt 2) 1 x)))

theorem sorted_net16 (x : ℕ → α) : Sorted 16 (net16 x) := fun t => by
  unfold net16
  rw [thr_net, thr_net, thr_net, thr_net]
  exact net_up up 4 _ 0 (fun _ _ => rfl) (net_alt 3 _ (net_alt 2 _ (net_alt 1 _ fun q => bit_two _ _)) 0)

/-- The merge of two columns of `2^k` rows. -/
def merge (k : ℕ) (p q : ℕ → α) : ℕ → α := net up (k + 1) (join (2 ^ k) p q)

theorem sorted_merge (k : ℕ) {p q : ℕ → α} (hp : Sorted (2 ^ k) p) (hq : Sorted (2 ^ k) q) :
    Sorted (2 ^ (k + 1)) (merge k p q) := fun t => by
  unfold merge
  rw [thr_net, thr_join]
  have := net_up up (k + 1) (join (2 ^ k) (fun i => t ≤ p i) (fun i => t ≤ q i)) 0 (fun _ _ => rfl) (by
    rw [Nat.zero_mul, show (2 : ℕ) ^ (k + 1) = 2 * 2 ^ k by ring]; exact bit_join (hp t) (hq t))
  rwa [Nat.zero_mul] at this

end Thr

/-! ## The values of a column -/

/-- The values of the first `n` rows. -/
def vals {α : Type} (n : ℕ) (x : ℕ → α) : Multiset α := (Multiset.range n).map x

theorem vals_congr {α : Type} {n : ℕ} {x y : ℕ → α} (h : ∀ i < n, x i = y i) : vals n x = vals n y :=
  Multiset.map_congr rfl fun i hi => h i (Multiset.mem_range.1 hi)

/-- A renumbering of the rows that undoes itself keeps the values. -/
theorem vals_involution {α : Type} (n : ℕ) (x : ℕ → α) (σ : ℕ → ℕ) (hlt : ∀ i < n, σ i < n)
    (hinv : ∀ i < n, σ (σ i) = i) : vals n (fun i => x (σ i)) = vals n x := by
  have h : (Multiset.range n).map σ = Multiset.range n := by
    refine (Multiset.Nodup.ext ?_ (Multiset.nodup_range n)).2 fun a => ?_
    · refine Multiset.Nodup.map_on (fun a ha b hb hab => ?_) (Multiset.nodup_range n)
      rw [Multiset.mem_range] at ha hb
      rw [← hinv a ha, hab, hinv b hb]
    · rw [Multiset.mem_map, Multiset.mem_range]
      constructor
      · rintro ⟨b, hb, rfl⟩; exact hlt b (Multiset.mem_range.1 hb)
      · intro ha; exact ⟨σ a, Multiset.mem_range.2 (hlt a ha), hinv a ha⟩
  unfold vals
  rw [← Function.comp_def x σ, ← Multiset.map_map, h]

section Perm

variable {α : Type} [LinearOrder α]

/-- A stage keeps the values of whole blocks, where both rows of a pair have one direction. -/
theorem vals_cx (d : ℕ → Bool) {j N : ℕ} (hj : 0 < j) (x : ℕ → α)
    (hd : ∀ q i, i < j → d (q * (2 * j) + j + i) = d (q * (2 * j) + i)) :
    vals (N * (2 * j)) (cx d j x) = vals (N * (2 * j)) x := by
  let s : ℕ → Bool := fun l => if d l then decide (x l < x (l + j)) else decide (x (l + j) < x l)
  let σ : ℕ → ℕ := fun i =>
    if i / j % 2 = 0 then (if s i then i + j else i) else (if s (i - j) then i - j else i)
  have hs : ∀ q i : ℕ, s (q * (2 * j) + i)
      = if d (q * (2 * j) + i) then decide (x (q * (2 * j) + i) < x (q * (2 * j) + j + i))
        else decide (x (q * (2 * j) + j + i) < x (q * (2 * j) + i)) := fun q i => by
    show (if d _ then _ else _) = _
    rw [show q * (2 * j) + i + j = q * (2 * j) + j + i by omega]
  have σl : ∀ q i : ℕ, i < j → σ (q * (2 * j) + i)
      = if s (q * (2 * j) + i) then q * (2 * j) + j + i else q * (2 * j) + i := fun q i hi => by
    show (if _ then _ else _) = _
    rw [if_pos (low_half hi), show q * (2 * j) + i + j = q * (2 * j) + j + i by omega]
  have σh : ∀ q i : ℕ, i < j → σ (q * (2 * j) + j + i)
      = if s (q * (2 * j) + i) then q * (2 * j) + i else q * (2 * j) + j + i := fun q i hi => by
    show (if _ then _ else _) = _
    rw [if_neg (by rw [high_half hi]; decide), show q * (2 * j) + j + i - j = q * (2 * j) + i by omega]
  have hcx : ∀ i, cx d j x i = x (σ i) := fun i => by
    rcases halves hj i with ⟨q, r, hr, rfl⟩ | ⟨q, r, hr, rfl⟩
    · rw [cx_low d x hr, σl q r hr, hs]
      by_cases hdd : d (q * (2 * j) + r) = true
      · simp only [hdd, if_true, decide_eq_true_eq]
        split_ifs with h
        · exact sup_eq_right.2 h.le
        · exact sup_eq_left.2 (not_lt.1 h)
      · simp only [hdd]
        simp only [Bool.false_eq_true, if_false, decide_eq_true_eq]
        split_ifs with h
        · exact inf_eq_right.2 h.le
        · exact inf_eq_left.2 (not_lt.1 h)
    · rw [cx_high d x hr, σh q r hr, hs, hd q r hr]
      by_cases hdd : d (q * (2 * j) + r) = true
      · simp only [hdd, if_true, decide_eq_true_eq]
        split_ifs with h
        · exact inf_eq_right.2 h.le
        · exact inf_eq_left.2 (not_lt.1 h)
      · simp only [hdd]
        simp only [Bool.false_eq_true, if_false, decide_eq_true_eq]
        split_ifs with h
        · exact sup_eq_right.2 h.le
        · exact sup_eq_left.2 (not_lt.1 h)
  have key : ∀ q : ℕ, q * (2 * j) < N * (2 * j) → q * (2 * j) + 2 * j ≤ N * (2 * j) := fun q h => by
    have : q + 1 ≤ N := Nat.lt_of_mul_lt_mul_right h
    calc q * (2 * j) + 2 * j = (q + 1) * (2 * j) := by ring
      _ ≤ N * (2 * j) := Nat.mul_le_mul_right _ this
  rw [show cx d j x = fun i => x (σ i) from funext hcx]
  refine vals_involution _ x σ (fun i hi => ?_) (fun i _ => ?_)
  · rcases halves hj i with ⟨q, r, hr, rfl⟩ | ⟨q, r, hr, rfl⟩
    · have := key q (by omega)
      rw [σl q r hr]; split_ifs <;> omega
    · have := key q (by omega)
      rw [σh q r hr]; split_ifs <;> omega
  · rcases halves hj i with ⟨q, r, hr, rfl⟩ | ⟨q, r, hr, rfl⟩
    · rw [σl q r hr]
      split_ifs with h
      · rw [σh q r hr, if_pos h]
      · rw [σl q r hr, if_neg h]
    · rw [σh q r hr]
      split_ifs with h
      · rw [σl q r hr, if_pos h]
      · rw [σh q r hr, if_neg h]

theorem vals_net (d : ℕ → Bool) (k : ℕ) (hd : ∀ q i, i < 2 ^ k → d (q * 2 ^ k + i) = d (q * 2 ^ k)) :
    ∀ (N : ℕ) (x : ℕ → α), vals (N * 2 ^ k) (net d k x) = vals (N * 2 ^ k) x := by
  induction k with
  | zero => intro N x; rfl
  | succ k ih =>
    intro N x
    have e : (2 : ℕ) ^ (k + 1) = 2 * 2 ^ k := by ring
    rw [e] at hd
    have hp : 0 < 2 ^ k := by positivity
    show vals _ (net d k (cx d (2 ^ k) x)) = _
    have h1 := ih (fun q i hi => by
      have hq : q = 2 * (q / 2) ∨ q = 2 * (q / 2) + 1 := by omega
      generalize q / 2 = p at hq
      rcases hq with rfl | rfl
      · rw [show 2 * p * 2 ^ k = p * (2 * 2 ^ k) by ring]; exact hd p i (by omega)
      · rw [show (2 * p + 1) * 2 ^ k = p * (2 * 2 ^ k) + 2 ^ k by ring, Nat.add_assoc, hd p _ (by omega),
          hd p (2 ^ k) (by omega)]) (2 * N) (cx d (2 ^ k) x)
    rw [show 2 * N * 2 ^ k = N * (2 * 2 ^ k) by ring] at h1
    rw [e, h1]
    exact vals_cx d hp x fun q i hi => by rw [Nat.add_assoc, hd q _ (by omega), hd q i (by omega)]

theorem vals_net16 (x : ℕ → α) : vals 16 (net16 x) = vals 16 x := by
  have h4 := fun y : ℕ → α => vals_net up 4 (fun _ _ _ => rfl) 1 y
  have h3 := fun y : ℕ → α => vals_net (alt 8) 3 (fun q i hi => by
    unfold alt; congr 2; norm_num at hi ⊢; omega) 2 y
  have h2 := fun y : ℕ → α => vals_net (alt 4) 2 (fun q i hi => by
    unfold alt; congr 2; norm_num at hi ⊢; omega) 4 y
  have h1 := fun y : ℕ → α => vals_net (alt 2) 1 (fun q i hi => by
    unfold alt; congr 2; norm_num at hi ⊢; omega) 8 y
  unfold net16
  exact (h4 _).trans ((h3 _).trans ((h2 _).trans (h1 _)))

theorem vals_join {β : Type} (m : ℕ) (p q : ℕ → β) : vals (m + m) (join m p q) = vals m p + vals m q := by
  have h : vals (m + m) (join m p q) = vals m (join m p q) + vals m (fun i => join m p q (m + i)) := by
    unfold vals
    rw [Multiset.range_add, Multiset.map_add, Multiset.map_map]; rfl
  rw [h, vals_congr (x := join m p q) (y := p) fun i hi => if_pos hi,
    vals_congr (x := fun i => join m p q (m + i)) (y := fun i => q (m - 1 - i)) fun i hi => by
      show join m p q (m + i) = _
      unfold join
      rw [if_neg (by omega)]; congr 1; omega]
  congr 1
  exact vals_involution m q (fun i => m - 1 - i) (fun i hi => by omega) (fun i hi => by omega)

theorem vals_merge (k : ℕ) (p q : ℕ → α) : vals (2 ^ k + 2 ^ k) (merge k p q) = vals (2 ^ k) p + vals (2 ^ k) q := by
  unfold merge
  have := vals_net (α := α) up (k + 1) (fun _ _ _ => rfl) 1 (join (2 ^ k) p q)
  rw [Nat.one_mul, show (2 : ℕ) ^ (k + 1) = 2 ^ k + 2 ^ k by ring] at this
  rw [this, vals_join]

/-- Two columns in order with the same values are equal. -/
theorem eq_of_sorted {n : ℕ} {x y : ℕ → α} (hx : ∀ i i', i ≤ i' → i' < n → x i ≤ x i')
    (hy : ∀ i i', i ≤ i' → i' < n → y i ≤ y i') (h : vals n x = vals n y) {i : ℕ} (hi : i < n) : x i = y i := by
  have hp : ((List.range n).map x).Perm ((List.range n).map y) := Multiset.coe_eq_coe.1 h
  have hs : ∀ z : ℕ → α, (∀ i i', i ≤ i' → i' < n → z i ≤ z i') → ((List.range n).map z).Pairwise (· ≤ ·) := fun z hz => by
    rw [List.pairwise_map]
    refine List.Pairwise.imp_of_mem (fun ha hb hab => ?_) (List.pairwise_lt_range (n := n))
    exact hz _ _ hab.le (List.mem_range.1 hb)
  have he := hp.eq_of_pairwise (fun a b _ _ h1 h2 => le_antisymm h1 h2) (hs x hx) (hs y hy)
  have := congrArg (fun l => l[i]?) he
  simpa [hi] using this

end Perm

end Cert.Proof.Sort
-- ==== Proof.Stages.lean ====
/- Two-axis arrays read one column at a time, and what each operation the kernel is made of does to a column: a rotation
   of the rows, a shift of the columns, a selection by a bit of the row number, a cut, a stacking of pieces; and from
   these the compare-exchange stages and the reversal of the rows, as the kernel writes them. -/
module

public import proofs.«01_k».proof.Proof.Sort
public import Idealize.ShloMosaic.Lib.KernelVsHost
public import Idealize.ShloMosaic.Lib.Pipeline.Value
public import Idealize.ShloMosaic.Lib.Pointwise.Index
public import Idealize.ShloMosaic.PureOps.Ideal
public import Idealize.ShloMosaic.PureOps.Ideal.Laws

@[expose] public section

namespace Cert.Proof.Stages

open Idealize.ShloMosaic Cert.Proof.Sort

/-- The shape of an array of `n` rows and `w` columns. -/
abbrev Sh (n w : ℕ) : Shape := ⟨2, ![n, w]⟩

/-- Column `c` of the array `X` is `x`. -/
def Rep {α : Type} {n w : ℕ} (X : (Sh n w).Idx → α) (c : ℕ) (x : ℕ → α) : Prop :=
  ∀ k : (Sh n w).Idx, (k 1).val = c → X k = x (k 0).val

/-- The mask `M` holds at the rows whose number has the `j` bit clear. -/
def Mask {n w : ℕ} (j : ℕ) (M : IVec (Sh n w) 1) : Prop :=
  ∀ k, M k = if (k 0).val / j % 2 = 0 then 1#1 else 0#1

section Moves

variable {α : Type} {n w : ℕ} {X : (Sh n w).Idx → α} {c : ℕ} {x : ℕ → α}

theorem Rep.congr {y : ℕ → α} (h : Rep X c x) (e : ∀ r < n, x r = y r) : Rep X c y :=
  fun k hk => (h k hk).trans (e _ (k 0).isLt)

theorem row_lt (k : (Sh n w).Idx) : (k 0).val < n := (k 0).isLt

theorem col_lt (k : (Sh n w).Idx) : (k 1).val < w := (k 1).isLt

theorem rot_rep (s : BitVec 32) {h : (Sh n w).Rotates 0 none} (hX : Rep X c x) :
    Rep (dynamicRotate 0 s none X h) c (fun r => x ((r + n - s.toNat % n) % n)) := fun k hk => by
  have hn : 0 < n := by have := row_lt k; omega
  rw [dynamicRotate_apply 0 s X h k (ix2 ⟨((k 0).val + n - s.toNat % n) % n, Nat.mod_lt _ hn⟩ (k 1))
    (fun b => by fin_cases b <;> rfl)]
  exact hX _ hk

/-- Columns moved left by `s`: column `c` of the result is column `c + s` of the array. -/
theorem lshift_rep (s : ℕ) (a : BitVec 32) (ha : a.toNat = w - s) (hs : 0 < s) (hc : c + s < w) {h : (Sh n w).Rotates 1 none}
    (hX : Rep X (c + s) x) : Rep (dynamicRotate 1 a none X h) c x := fun k hk => by
  rw [dynamicRotate_apply 1 a X h k (ix2 (k 0) ⟨c + s, hc⟩) (fun b => by
    fin_cases b
    · rfl
    · show c + s = ((k 1).val + w - a.toNat % w) % w
      rw [hk, ha, Nat.mod_eq_of_lt (by omega : w - s < w), show c + w - (w - s) = c + s by omega, Nat.mod_eq_of_lt hc])]
  exact hX (ix2 (k 0) ⟨c + s, hc⟩) rfl

theorem mask_iota (j : ℕ) (hj : j = 1 ∨ j = 2 ∨ j = 4 ∨ j = 8) (hn : n ≤ 128) {h : (Sh n w).Iotas .tc 32 [0]} :
    Mask j (cmpi .eq (andi (iota .tc (Sh n w) 32 [0] h) (broadcast (Sh n w) (BitVec.ofNat 32 j)))
      (broadcast (Sh n w) 0#32)) := fun k => by
  have key : ∀ r : Fin 128, ∀ j ∈ [1, 2, 4, 8], BitVec.ofBool ((BitVec.ofNat 32 r.val &&& BitVec.ofNat 32 j) == 0#32)
      = if r.val / j % 2 = 0 then 1#1 else 0#1 := by decide
  have hk := row_lt k
  have := key ⟨(k 0).val, by omega⟩ j (by simpa using hj)
  rw [← this]
  show BitVec.ofBool ((BitVec.ofNat 32 (0 * n + (k 0).val) &&& BitVec.ofNat 32 j) == 0#32) = _
  rw [Nat.zero_mul, Nat.zero_add]

theorem mask_pos {j : ℕ} {M : IVec (Sh n w) 1} (hM : Mask j M) {u v : (Sh n w).Idx → α} {k : (Sh n w).Idx}
    (h : (k 0).val / j % 2 = 0) : select M u v k = u k := by
  show (if M k = 1 then u k else v k) = _
  rw [hM k, if_pos h]; rfl

theorem mask_neg {j : ℕ} {M : IVec (Sh n w) 1} (hM : Mask j M) {u v : (Sh n w).Idx → α} {k : (Sh n w).Idx}
    (h : ¬ (k 0).val / j % 2 = 0) : select M u v k = v k := by
  show (if M k = 1 then u k else v k) = _
  rw [hM k, if_neg h]; rfl

/-- The two directions of a rotation, chosen by the `j` bit of the row number, swap each row with its partner. -/
theorem partner_rep {j : ℕ} (hj : 0 < j) (hd : 2 * j ∣ n) {a b : BitVec 32} (ha : a.toNat = n - j) (hb : b.toNat = j)
    {h h' : (Sh n w).Rotates 0 none} {M : IVec (Sh n w) 1} (hM : Mask j M) (hX : Rep X c x) :
    Rep (select M (dynamicRotate 0 a none X h) (dynamicRotate 0 b none X h')) c
      (fun r => if r / j % 2 = 0 then x (r + j) else x (r - j)) := fun k hk => by
  have hr := row_lt k
  obtain ⟨m, rfl⟩ := hd
  obtain ⟨r, e'⟩ : ∃ r, r = (k 0).val := ⟨_, rfl⟩
  rw [← e'] at hr
  have hh : ∃ q i, i < j ∧ (r = q * (2 * j) + i ∨ r = q * (2 * j) + j + i) := by
    rcases halves hj r with ⟨q, i, hi, e⟩ | ⟨q, i, hi, e⟩
    · exact ⟨q, i, hi, Or.inl e⟩
    · exact ⟨q, i, hi, Or.inr e⟩
  obtain ⟨q, i, hi, e⟩ := hh
  have hqm : q * (2 * j) + 2 * j ≤ 2 * j * m := by
    have hq : q < m := by
      by_contra hc
      have := Nat.mul_le_mul_right (2 * j) (not_lt.mp hc)
      rw [Nat.mul_comm (2 * j) m] at hr
      omega
    have := Nat.mul_le_mul_right (2 * j) hq
    rw [Nat.succ_mul, Nat.mul_comm m] at this; exact this
  rcases e with e | e
  · have hl : r / j % 2 = 0 := by rw [e]; exact low_half hi
    rw [mask_pos hM (by rw [← e']; exact hl), rot_rep a hX k hk]
    beta_reduce
    rw [← e', if_pos hl, ha, Nat.mod_eq_of_lt (by omega : 2 * j * m - j < 2 * j * m),
      show r + 2 * j * m - (2 * j * m - j) = r + j by omega, Nat.mod_eq_of_lt (by omega)]
  · have hl : ¬ r / j % 2 = 0 := by rw [e, high_half hi]; decide
    rw [mask_neg hM (by rw [← e']; exact hl), rot_rep b hX k hk]
    beta_reduce
    rw [← e', if_neg hl, hb, Nat.mod_eq_of_lt (by omega : j < 2 * j * m),
      show r + 2 * j * m - j = (r - j) + 2 * j * m by omega, Nat.add_mod_right, Nat.mod_eq_of_lt (by omega)]

end Moves

section Cuts

variable {α : Type} {n m w w' : ℕ} {X : (Sh n w).Idx → α} {c : ℕ} {x : ℕ → α}

/-- A cut of rows from `o` and columns from `q`. -/
theorem slice_rep (o q : ℕ) {h : (Sh n w).Slices ![o, q] (Sh m w')} (hX : Rep X (q + c) x) :
    Rep (extractStridedSlice (Sh m w') ![o, q] X h) c (fun r => x (o + r)) := fun k hk => by
  have h0 : o + m ≤ n := h.2 0
  have h1 : q + w' ≤ w := h.2 1
  have := row_lt k
  have := col_lt k
  rw [extractStridedSlice_apply _ X h k (ix2 ⟨o + (k 0).val, by omega⟩ ⟨q + (k 1).val, by omega⟩)
    (fun b => by fin_cases b <;> rfl)]
  exact hX (ix2 _ _) (by show q + (k 1).val = q + c; rw [hk])

/-- The list of the first `N` values of `f`. -/
def tab {β : Type} : ℕ → (ℕ → β) → List β
  | 0, _ => []
  | N + 1, f => f 0 :: tab N (fun i => f (i + 1))

theorem tab_eq {β : Type} (N : ℕ) : ∀ f : ℕ → β, tab N f = List.ofFn fun i : Fin N => f i.val := by
  induction N with
  | zero => intro f; rfl
  | succ N ih => intro f; rw [tab, ih, List.ofFn_succ]; rfl

theorem tab_concat {N : ℕ} (h2 : 2 ≤ N) (hn : n = N * m) (P : ℕ → (Sh m w).Idx → α) :
    Shape.Concatenates ((tab N fun b => (⟨Sh m w, P b⟩ : (s : Shape) × (s.Idx → α))).map (·.1)) (Sh n w) 0 := by
  have e : ∀ (N : ℕ) (P : ℕ → (Sh m w).Idx → α),
      (tab N fun b => (⟨Sh m w, P b⟩ : (s : Shape) × (s.Idx → α))).map (·.1) = List.replicate N (Sh m w) := by
    intro N
    induction N with
    | zero => intro P; rfl
    | succ N ih => intro P; rw [tab, List.map_cons, List.replicate_succ, ih fun b => P (b + 1)]
  rw [e]
  refine ⟨by rw [List.length_replicate]; exact h2, fun s hs => ?_, ?_⟩
  · rw [List.eq_of_mem_replicate hs]
    refine ⟨rfl, fun b hb => ?_⟩
    fin_cases b
    · exact absurd rfl hb
    · rfl
  · rw [List.map_replicate, List.sum_replicate]
    show N * m = n
    exact hn.symm

/-- A vector as an array of one row. -/
theorem row_apply (V : (⟨1, ![w]⟩ : Shape).Idx → α) (h : (⟨1, ![w]⟩ : Shape).ShapeCasts (Sh 1 w)) (k : (Sh 1 w).Idx) :
    shapeCast (Sh 1 w) V h k = V (ix1 (k 1)) :=
  shapeCast_apply V h k (ix1 (k 1)) (by
    rw [Shape.rowMajor_val_one, Shape.rowMajor_val_two]
    have h0 : (k 0).val = 0 := Nat.lt_one_iff.1 (k 0).isLt
    rw [h0]
    show (k 1).val = 0 * w + (k 1).val
    omega)

/-- Pieces of `m` rows each, one below the other. -/
theorem stack_rep (N : ℕ) (hm : 0 < m) (hn : n = N * m) (P : ℕ → (Sh m w).Idx → α)
    {h : Shape.Concatenates ((tab N fun b => (⟨Sh m w, P b⟩ : (s : Shape) × (s.Idx → α))).map (·.1)) (Sh n w) 0}
    (p : ℕ → ℕ → α) (hP : ∀ b < N, Rep (P b) c (p b)) :
    Rep (concatenate (Sh n w) 0 (tab N fun b => (⟨Sh m w, P b⟩ : (s : Shape) × (s.Idx → α))) h) c
      (fun r => p (r / m) (r % m)) := fun k hk => by
  have hr := row_lt k
  revert h
  rw [tab_eq]
  intro h
  have hb : (k 0).val / m < N := Nat.div_lt_of_lt_mul (by rw [Nat.mul_comm, ← hn]; exact hr)
  rw [concatenate_ofFn_apply (s₁ := Sh m w) 0 (fun b : Fin N => P b.val) h rfl m rfl k ⟨(k 0).val / m, hb⟩ rfl
    (ix2 ⟨(k 0).val % m, Nat.mod_lt _ hm⟩ (k 1)) rfl (fun b hne => by
      fin_cases b
      · exact absurd rfl hne
      · rfl)]
  exact hP _ hb _ hk

/-- Blocks of `m` rows of arrays of one shape, block `b` cut from `X b` at its own block `o b`. -/
theorem pick_rep (N : ℕ) (hm : 0 < m) {n' : ℕ} (hn : n = N * m) (X : ℕ → (Sh n' w).Idx → α) (o : ℕ → ℕ)
    (hs : ∀ b, (Sh n' w).Slices ![o b * m, 0] (Sh m w))
    {h : Shape.Concatenates ((tab N fun b => (⟨Sh m w, extractStridedSlice (Sh m w) ![o b * m, 0] (X b) (hs b)⟩ :
      (s : Shape) × (s.Idx → α))).map (·.1)) (Sh n w) 0}
    (x : ℕ → ℕ → α) (hX : ∀ b < N, Rep (X b) c (x b)) :
    Rep (concatenate (Sh n w) 0 (tab N fun b => (⟨Sh m w, extractStridedSlice (Sh m w) ![o b * m, 0] (X b) (hs b)⟩ :
      (s : Shape) × (s.Idx → α))) h) c (fun r => x (r / m) (o (r / m) * m + r % m)) :=
  stack_rep N hm hn _ (fun b i => x b (o b * m + i)) fun b hb => slice_rep (o b * m) 0 (by rw [Nat.zero_add]; exact hX b hb)

theorem slices_block {N : ℕ} (hN : 0 < N) (hn : n = N * m) (b : ℕ) : (Sh n w).Slices ![b % N * m, 0] (Sh m w) :=
  ⟨rfl, fun a => by
    fin_cases a
    · show b % N * m + m ≤ n
      rw [hn, ← Nat.succ_mul]
      exact Nat.mul_le_mul_right m (Nat.mod_lt b hN)
    · show 0 + w ≤ w
      omega⟩

/-- The block that meets block `b`. -/
def mate (b : ℕ) : ℕ := b + 1 - 2 * (b % 2)

/-- The pieces that exchange neighbouring blocks of `m` rows. -/
def swapped (N m : ℕ) (hN : 0 < N) (hn : n = N * m) (X : (Sh n w).Idx → α) : List ((s : Shape) × (s.Idx → α)) :=
  tab N fun b => ⟨Sh m w, extractStridedSlice (Sh m w) ![mate b % N * m, 0] X (slices_block hN hn (mate b))⟩

/-- The pieces that take the blocks of `m` rows in turn from two arrays. -/
def woven (N m : ℕ) (hN : 0 < N) (hn : n = N * m) (X Y : (Sh n w).Idx → α) : List ((s : Shape) × (s.Idx → α)) :=
  tab N fun b => ⟨Sh m w, extractStridedSlice (Sh m w) ![b % N * m, 0] (bif (b % 2).beq 0 then X else Y) (slices_block hN hn b)⟩

/-- The pieces that take the blocks of `m` rows from the last to the first. -/
def turned (N m : ℕ) (hN : 0 < N) (hn : n = N * m) (X : (Sh n w).Idx → α) : List ((s : Shape) × (s.Idx → α)) :=
  tab N fun b => ⟨Sh m w, extractStridedSlice (Sh m w) ![(N - 1 - b) % N * m, 0] X (slices_block hN hn (N - 1 - b))⟩

theorem swapped_rep (N : ℕ) (hN : 0 < N) (hm : 0 < m) (h2 : N % 2 = 0) (hn : n = N * m)
    {h : Shape.Concatenates ((swapped N m hN hn X).map (·.1)) (Sh n w) 0} (hX : Rep X c x) :
    Rep (concatenate (Sh n w) 0 (swapped N m hN hn X) h) c (fun r => if r / m % 2 = 0 then x (r + m) else x (r - m)) := by
  refine (pick_rep N hm hn (fun _ => X) (fun b => mate b % N) _ (fun _ => x) fun _ _ => hX).congr fun r hr => ?_
  have hb : r / m < N := Nat.div_lt_of_lt_mul (by rw [Nat.mul_comm, ← hn]; exact hr)
  have e := Nat.div_add_mod r m
  beta_reduce
  generalize r / m = b at hb e ⊢
  generalize r % m = i at e ⊢
  have hlt : mate b < N := by unfold mate; omega
  rw [Nat.mod_eq_of_lt hlt]
  unfold mate
  split
  · next hp =>
    rw [hp, show b + 1 - 2 * 0 = b + 1 by omega, Nat.succ_mul, Nat.mul_comm]
    congr 1; omega
  · next hp =>
    have hp' : b % 2 = 1 := by omega
    obtain ⟨q, rfl⟩ : ∃ q, b = q + 1 := ⟨b - 1, by omega⟩
    rw [hp', show q + 1 + 1 - 2 * 1 = q by omega]
    rw [Nat.mul_comm, Nat.succ_mul] at e
    congr 1; omega

theorem woven_rep {Y : (Sh n w).Idx → α} {y : ℕ → α} (N : ℕ) (hN : 0 < N) (hm : 0 < m) (hn : n = N * m)
    {h : Shape.Concatenates ((woven N m hN hn X Y).map (·.1)) (Sh n w) 0} (hX : Rep X c x) (hY : Rep Y c y) :
    Rep (concatenate (Sh n w) 0 (woven N m hN hn X Y) h) c (fun r => if r / m % 2 = 0 then x r else y r) := by
  refine (pick_rep N hm hn (fun b => bif (b % 2).beq 0 then X else Y) (fun b => b % N) _
    (fun b => if b % 2 = 0 then x else y) fun b _ => ?_).congr fun r hr => ?_
  · beta_reduce
    rcases Nat.mod_two_eq_zero_or_one b with e | e
    · rw [e]; exact hX
    · rw [e]; exact hY
  · have hb : r / m < N := Nat.div_lt_of_lt_mul (by rw [Nat.mul_comm, ← hn]; exact hr)
    beta_reduce
    rw [Nat.mod_eq_of_lt hb, Nat.div_add_mod']
    split <;> rfl

theorem turned_rep (N : ℕ) (hN : 0 < N) (hm : 0 < m) (hn : n = N * m)
    {h : Shape.Concatenates ((turned N m hN hn X).map (·.1)) (Sh n w) 0} (hX : Rep X c x) :
    Rep (concatenate (Sh n w) 0 (turned N m hN hn X) h) c (fun r => x ((N - 1 - r / m) * m + r % m)) := by
  refine (pick_rep N hm hn (fun _ => X) (fun b => (N - 1 - b) % N) _ (fun _ => x) fun _ _ => hX).congr fun r hr => ?_
  beta_reduce
  rw [Nat.mod_eq_of_lt (Nat.lt_of_le_of_lt (Nat.sub_le _ _) (Nat.sub_lt hN Nat.one_pos))]

/-- One array below another of the same height, turned upside down: the column is the join of the two. -/
theorem join_rep {X Y : (Sh m w).Idx → α} {x y : ℕ → α} (hm : 0 < m) (hn : n = 2 * m)
    (hX : Rep X c x) (hY : Rep Y c (fun r => y (m - 1 - r))) :
    Rep (concatenate (Sh n w) 0 ([⟨Sh m w, X⟩, ⟨Sh m w, Y⟩] : List ((s : Shape) × (s.Idx → α)))
      (tab_concat (le_refl 2) hn fun b => bif b.beq 0 then X else Y)) c (join m x y) := by
  refine (stack_rep (h := tab_concat (le_refl 2) hn fun b => bif b.beq 0 then X else Y) 2 hm hn (fun b => bif b.beq 0 then X else Y)
    (fun b => if b = 0 then x else fun r => y (m - 1 - r)) fun b hb => ?_).congr fun r hr => ?_
  · obtain rfl | rfl : b = 0 ∨ b = 1 := by omega
    · exact hX
    · exact hY
  · beta_reduce
    unfold join
    by_cases h : r < m
    · rw [if_pos h, if_pos (Nat.div_eq_of_lt h), Nat.mod_eq_of_lt h]
    · obtain ⟨i, rfl⟩ : ∃ i, r = m + i := ⟨r - m, by omega⟩
      rw [if_neg h, Nat.add_div_left _ hm, if_neg (Nat.succ_ne_zero _), Nat.add_mod_left, Nat.mod_eq_of_lt (by omega)]
      congr 1; omega

end Cuts

section Networks

variable {n m w : ℕ} {X : FVec Ideal (Sh n w) .f32} {c : ℕ} {x : ℕ → EReal}

theorem min_rep {Y : FVec Ideal (Sh n w) .f32} {y : ℕ → EReal} (hX : Rep X c x) (hY : Rep Y c y) :
    Rep (α := EReal) (minimumf X Y) c (fun r => x r ⊓ y r) := fun k hk =>
  congrArg₂ min (hX k hk) (hY k hk)

theorem max_rep {Y : FVec Ideal (Sh n w) .f32} {y : ℕ → EReal} (hX : Rep X c x) (hY : Rep Y c y) :
    Rep (α := EReal) (maximumf X Y) c (fun r => x r ⊔ y r) := fun k hk =>
  congrArg₂ max (hX k hk) (hY k hk)

/-- A stage whose partners are reached by rotations, and that sorts upwards. -/
theorem asc_rep {j : ℕ} (hj : 0 < j) (hd : 2 * j ∣ n) {a b : BitVec 32} (ha : a.toNat = n - j) (hb : b.toNat = j)
    {h h' : (Sh n w).Rotates 0 none} {M : IVec (Sh n w) 1} (hM : Mask j M) (hX : Rep X c x) :
    Rep (α := EReal) (select M (minimumf X (dynamicRotate 0 a none X h)) (maximumf X (dynamicRotate 0 b none X h'))) c
      (cx up j x) := fun k hk => by
  have hp := partner_rep hj hd ha hb hM (h := h) (h' := h') hX k hk
  beta_reduce at hp
  unfold cx up
  by_cases hl : (k 0).val / j % 2 = 0
  · rw [mask_pos hM hl, if_pos hl] at hp
    rw [mask_pos hM hl, if_pos hl]
    exact congrArg₂ min (hX k hk) hp
  · rw [mask_neg hM hl, if_neg hl] at hp
    rw [mask_neg hM hl, if_neg hl]
    exact congrArg₂ max (hX k hk) hp

/-- A stage whose direction alternates from one block of `d` rows to the next. -/
theorem dir_rep {j d : ℕ} {M M' : IVec (Sh n w) 1} (hM : Mask j M) (hM' : Mask d M') {Y : FVec Ideal (Sh n w) .f32}
    (hX : Rep X c x) (hY : Rep (α := EReal) Y c (fun r => if r / j % 2 = 0 then x (r + j) else x (r - j))) :
    Rep (α := EReal) (select (xori (xori M M') (constantI (Sh n w) 1 1#1)) (minimumf X Y) (maximumf X Y)) c (cx (alt d) j x) :=
    fun k hk => by
  have hy := hY k hk
  beta_reduce at hy
  have e : select (xori (xori M M') (constantI (Sh n w) 1 1#1)) (minimumf X Y) (maximumf X Y) k
      = if (M k ^^^ M' k) ^^^ 1#1 = 1 then min (X k) (Y k) else max (X k) (Y k) := rfl
  rw [e, hM k, hM' k, hX k hk, hy]
  unfold cx alt
  have h2 := Nat.mod_two_eq_zero_or_one ((k 0).val / d)
  by_cases hl : (k 0).val / j % 2 = 0 <;> by_cases hl' : (k 0).val / d % 2 = 0
  · simp [hl, hl']
  · have : (k 0).val / d % 2 = 1 := by omega
    simp [hl, this]
  · simp [hl, hl']
  · have : (k 0).val / d % 2 = 1 := by omega
    simp [hl, this]

/-- A stage whose partners are whole blocks of rows. -/
theorem big_rep (N : ℕ) (hN : 0 < N) (hm : 0 < m) (h2 : N % 2 = 0) (hn : n = N * m) {Y : FVec Ideal (Sh n w) .f32}
    {h : Shape.Concatenates ((woven N m hN hn (minimumf X Y) (maximumf X Y)).map (·.1)) (Sh n w) 0}
    (hX : Rep X c x) (hY : Rep (α := EReal) Y c (fun r => if r / m % 2 = 0 then x (r + m) else x (r - m))) :
    Rep (α := EReal) (concatenate (Sh n w) 0 (woven N m hN hn (minimumf X Y) (maximumf X Y)) h) c (cx up m x) :=
  (woven_rep N hN hm hn (min_rep hX hY) (max_rep hX hY)).congr fun r hr => by
    unfold cx up
    by_cases hl : r / m % 2 = 0
    · simp [hl]
    · simp [hl]

/-- The three exchanges inside blocks of eight rows that finish the reversal of the rows. -/
theorem turn_rep {α : Type} {X : (Sh n w).Idx → α} {x : ℕ → α} {M₁ M₂ M₄ : IVec (Sh n w) 1} (h8 : 8 ∣ n)
    (hM₁ : Mask 1 M₁) (hM₂ : Mask 2 M₂) (hM₄ : Mask 4 M₄) {a₁ a₂ a₄ : BitVec 32} (h₁ : a₁.toNat = n - 1)
    (h₂ : a₂.toNat = n - 2) (h₄ : a₄.toNat = n - 4)
    {r₁ r₁' r₂ r₂' r₄ r₄' : (Sh n w).Rotates 0 none} {A B : (Sh n w).Idx → α}
    (hA : A = select M₄ (dynamicRotate 0 a₄ none X r₄) (dynamicRotate 0 4#32 none X r₄'))
    (hB : B = select M₂ (dynamicRotate 0 a₂ none A r₂) (dynamicRotate 0 2#32 none A r₂'))
    (hX : Rep X c (fun r => x (n / 8 * 8 - 8 - r / 8 * 8 + r % 8))) :
    Rep (select M₁ (dynamicRotate 0 a₁ none B r₁) (dynamicRotate 0 1#32 none B r₁')) c (fun r => x (n - 1 - r)) := by
  subst hB; subst hA
  have e := partner_rep (by decide : 0 < 1) (by omega) h₁ (b := 1#32) rfl hM₁ (h := r₁) (h' := r₁')
    (partner_rep (by decide : 0 < 2) (by omega) h₂ (b := 2#32) rfl hM₂ (h := r₂) (h' := r₂')
      (partner_rep (by decide : 0 < 4) (by omega) h₄ (b := 4#32) rfl hM₄ (h := r₄) (h' := r₄') hX))
  refine e.congr fun r hr => ?_
  split <;> split <;> split <;> congr 1 <;> omega

/-- A directed stage as the kernel writes it. -/
theorem dstage_rep (j d : ℕ) (hj : j = 1 ∨ j = 2 ∨ j = 4 ∨ j = 8) (hd : d = 1 ∨ d = 2 ∨ d = 4 ∨ d = 8) (hn : n ≤ 128)
    (h2 : 2 * j ∣ n) {a b : BitVec 32} (ha : a.toNat = n - j) (hb : b.toNat = j)
    {i i' i'' : (Sh n w).Iotas .tc 32 [0]} {h h' : (Sh n w).Rotates 0 none} (hX : Rep (α := EReal) X c x) :
    Rep (α := EReal) (select (xori (xori
        (cmpi .eq (andi (iota .tc (Sh n w) 32 [0] i) (broadcast (Sh n w) (BitVec.ofNat 32 j))) (broadcast (Sh n w) 0#32))
        (cmpi .eq (andi (iota .tc (Sh n w) 32 [0] i') (broadcast (Sh n w) (BitVec.ofNat 32 d))) (broadcast (Sh n w) 0#32)))
        (constantI (Sh n w) 1 1#1))
      (minimumf X (select
        (cmpi .eq (andi (iota .tc (Sh n w) 32 [0] i'') (broadcast (Sh n w) (BitVec.ofNat 32 j))) (broadcast (Sh n w) 0#32))
        (dynamicRotate 0 a none X h) (dynamicRotate 0 b none X h')))
      (maximumf X (select
        (cmpi .eq (andi (iota .tc (Sh n w) 32 [0] i'') (broadcast (Sh n w) (BitVec.ofNat 32 j))) (broadcast (Sh n w) 0#32))
        (dynamicRotate 0 a none X h) (dynamicRotate 0 b none X h')))) c (cx (alt d) j x) :=
  dir_rep (mask_iota j hj hn) (mask_iota d hd hn) hX
    (partner_rep (by omega) h2 ha hb (mask_iota j hj hn) hX)

/-- A small stage that sorts upwards, as the kernel writes it. -/
theorem small_rep (j : ℕ) (hj : j = 1 ∨ j = 2 ∨ j = 4 ∨ j = 8) (hn : n ≤ 128) (h2 : 2 * j ∣ n) {a b : BitVec 32}
    (ha : a.toNat = n - j) (hb : b.toNat = j) {i : (Sh n w).Iotas .tc 32 [0]} {h h' : (Sh n w).Rotates 0 none}
    (hX : Rep (α := EReal) X c x) :
    Rep (α := EReal) (select
        (cmpi .eq (andi (iota .tc (Sh n w) 32 [0] i) (broadcast (Sh n w) (BitVec.ofNat 32 j))) (broadcast (Sh n w) 0#32))
      (minimumf X (dynamicRotate 0 a none X h)) (maximumf X (dynamicRotate 0 b none X h'))) c (cx up j x) :=
  asc_rep (by omega) h2 ha hb (mask_iota j hj hn) hX

/-- A stage between whole blocks of rows, as the kernel writes it. -/
theorem block_rep (N m : ℕ) (hN : 0 < N) (hm : 0 < m) (h2 : N % 2 = 0) (hn : n = N * m)
    (hX : Rep (α := EReal) X c x) :
    Rep (α := EReal) (concatenate (Sh n w) 0 (woven N m hN hn
        (minimumf X (concatenate (Sh n w) 0 (swapped N m hN hn X) (tab_concat (by omega) hn _)))
        (maximumf X (concatenate (Sh n w) 0 (swapped N m hN hn X) (tab_concat (by omega) hn _))))
      (tab_concat (by omega) hn _)) c (cx up m x) :=
  big_rep N hN hm h2 hn hX (swapped_rep N hN hm h2 hn hX)

/-- The rows of an array turned upside down, as the kernel writes it. -/
theorem rev_rep (N : ℕ) (hN : 2 ≤ N) (hn : n = N * 8) (h128 : n ≤ 128) {Y : FVec Ideal (Sh n w) .f32}
    {a₁ a₂ a₄ : BitVec 32} (h₁ : a₁.toNat = n - 1)
    (h₂ : a₂.toNat = n - 2) (h₄ : a₄.toNat = n - 4) {i₁ i₂ i₄ : (Sh n w).Iotas .tc 32 [0]}
    {r₁ r₁' r₂ r₂' r₄ r₄' : (Sh n w).Rotates 0 none}
    (hY : Rep (α := EReal) Y c x) :
    Rep (α := EReal) (select
        (cmpi .eq (andi (iota .tc (Sh n w) 32 [0] i₁) (broadcast (Sh n w) 1#32)) (broadcast (Sh n w) 0#32))
      (dynamicRotate 0 a₁ none (select
        (cmpi .eq (andi (iota .tc (Sh n w) 32 [0] i₂) (broadcast (Sh n w) 2#32)) (broadcast (Sh n w) 0#32))
        (dynamicRotate 0 a₂ none (select
          (cmpi .eq (andi (iota .tc (Sh n w) 32 [0] i₄) (broadcast (Sh n w) 4#32)) (broadcast (Sh n w) 0#32))
          (dynamicRotate 0 a₄ none (concatenate (Sh n w) 0 (turned N 8 (by omega) hn Y) (tab_concat hN hn _)) r₄)
          (dynamicRotate 0 4#32 none (concatenate (Sh n w) 0 (turned N 8 (by omega) hn Y) (tab_concat hN hn _)) r₄')) r₂)
        (dynamicRotate 0 2#32 none (select
          (cmpi .eq (andi (iota .tc (Sh n w) 32 [0] i₄) (broadcast (Sh n w) 4#32)) (broadcast (Sh n w) 0#32))
          (dynamicRotate 0 a₄ none (concatenate (Sh n w) 0 (turned N 8 (by omega) hn Y) (tab_concat hN hn _)) r₄)
          (dynamicRotate 0 4#32 none (concatenate (Sh n w) 0 (turned N 8 (by omega) hn Y) (tab_concat hN hn _)) r₄')) r₂')) r₁)
      (dynamicRotate 0 1#32 none (select
        (cmpi .eq (andi (iota .tc (Sh n w) 32 [0] i₂) (broadcast (Sh n w) 2#32)) (broadcast (Sh n w) 0#32))
        (dynamicRotate 0 a₂ none (select
          (cmpi .eq (andi (iota .tc (Sh n w) 32 [0] i₄) (broadcast (Sh n w) 4#32)) (broadcast (Sh n w) 0#32))
          (dynamicRotate 0 a₄ none (concatenate (Sh n w) 0 (turned N 8 (by omega) hn Y) (tab_concat hN hn _)) r₄)
          (dynamicRotate 0 4#32 none (concatenate (Sh n w) 0 (turned N 8 (by omega) hn Y) (tab_concat hN hn _)) r₄')) r₂)
        (dynamicRotate 0 2#32 none (select
          (cmpi .eq (andi (iota .tc (Sh n w) 32 [0] i₄) (broadcast (Sh n w) 4#32)) (broadcast (Sh n w) 0#32))
          (dynamicRotate 0 a₄ none (concatenate (Sh n w) 0 (turned N 8 (by omega) hn Y) (tab_concat hN hn _)) r₄)
          (dynamicRotate 0 4#32 none (concatenate (Sh n w) 0 (turned N 8 (by omega) hn Y) (tab_concat hN hn _)) r₄')) r₂')) r₁')) c
      (fun r => x (n - 1 - r)) :=
  turn_rep ⟨N, by omega⟩ (mask_iota 1 (by decide) h128) (mask_iota 2 (by decide) h128) (mask_iota 4 (by decide) h128)
    h₁ h₂ h₄ rfl rfl ((turned_rep N (by omega) (by decide) hn hY).congr fun r hr => by congr 1; omega)

/-- The sum over the rows of an array, as an array of one row. -/
theorem sum_rep (h : Rep (α := EReal) X c x)
    (hr : (Sh n w).Reduces [0] ⟨1, ![w]⟩) (hφ : FKind.Formats .f32) (ha : 0x00000000#32 = FKind.add.neutral .f32 hφ)
    (hs : (⟨1, ![w]⟩ : Shape).ShapeCasts (Sh 1 w)) :
    Rep (α := EReal) (shapeCast (Sh 1 w) (multiReduction .add [0] ⟨1, ![w]⟩ X 0x00000000#32 hr hφ ha) hs) c
      (fun _ => ∑ r : Fin n, x r.val) := fun k hk =>
  (row_apply _ hs k).trans ((Ideal.multiReduction_add_single X 0x00000000#32 hr hφ ha (ix1 (k 1))).trans
    (Finset.sum_congr rfl fun _ _ => h _ hk))

end Networks

end Cert.Proof.Stages
-- ==== Proof.Columns.lean ====
/- What the kernel computes before it cuts its columns into tiles, one column at a time: the sixteen rows of a column
   sorted, and the sorted columns merged two by two until a column holds a hundred and twenty-eight values. -/
module

public import proofs.«01_k».proof.Proof.Gen.KernelIdeal.Loops
public import proofs.«01_k».proof.Proof.Stages

@[expose] public section

noncomputable section

namespace Cert.Proof.Columns

open Idealize.ShloMosaic Cert.Proof.Sort Cert.Proof.Stages Cert.KernelIdeal Cert.KernelIdeal.Gen

/-- The row numbers of a sixteen-row array. -/
abbrev rows16 : IVec S16x512 32 := iota .tc S16x512 32 [0] iota_S16x512_d0_w32

section Parts

variable {c : ℕ} {x y : ℕ → EReal}

theorem sort_first (v : Vec Ideal S1x1x16x512 .f32) (h : Rep (α := EReal) (k0_pay2 v) c x) :
    Rep (α := EReal) (k0_pay3 v) c (cx (alt 4) 2 (cx (alt 2) 1 x)) := by
  refine dstage_rep 2 4 (by decide) (by decide) (by decide) (by decide) (by decide) (by decide) ?_
  exact dstage_rep 1 2 (by decide) (by decide) (by decide) (by decide) (by decide) (by decide) h

theorem sort_second (v : FVec Ideal S16x512 .f32) (h : Rep (α := EReal) v c x) :
    Rep (α := EReal) (k0_pay5 rows16 v k0_pay4) c (cx (alt 8) 4 (cx (alt 4) 1 x)) := by
  refine dstage_rep 4 8 (by decide) (by decide) (by decide) (by decide) (by decide) (by decide) ?_
  exact dstage_rep 1 4 (by decide) (by decide) (by decide) (by decide) (by decide) (by decide) h

theorem sort_third (v : FVec Ideal S16x512 .f32) (h : Rep (α := EReal) (k0_pay5 rows16 v k0_pay4) c x) :
    Rep (α := EReal) (k0_pay9 rows16 (k0_pay5 rows16 v k0_pay4) (k0_pay7 rows16) (k0_pay8 rows16 v k0_pay4)) c
      (cx up 4 (cx up 8 (cx (alt 8) 1 (cx (alt 8) 2 x)))) := by
  refine small_rep 4 (by decide) (by decide) (by decide) (by decide) (by decide) ?_
  refine block_rep 2 8 (by decide) (by decide) (by decide) (by decide) ?_
  refine dstage_rep 1 8 (by decide) (by decide) (by decide) (by decide) (by decide) (by decide) ?_
  exact dstage_rep 2 8 (by decide) (by decide) (by decide) (by decide) (by decide) (by decide) h

/-- The last two stages of the sixteen-row network, and the sorted columns set against their neighbours. -/
theorem join_16 (v : FVec Ideal S16x512 .f32) (hc : c + 1 < 512) (h : Rep (α := EReal) v c x)
    (h' : Rep (α := EReal) v (c + 1) y) :
    Rep (α := EReal) (k0_pay13 v k0_pay10 (minimumf v (dynamicRotate 0 14#32 none v rotates_S16x512_d0))
      (dynamicRotate 0 2#32 none v rotates_S16x512_d0)) c (join 16 (cx up 1 (cx up 2 x)) (cx up 1 (cx up 2 y))) := by
  refine join_rep (by decide) (by decide) ?_
    (rev_rep 2 (by decide) (by decide) (by decide) (by decide) (by decide) (by decide)
      (lshift_rep 1 _ (by decide) (by decide) hc ?_))
  · refine small_rep 1 (by decide) (by decide) (by decide) (by decide) (by decide) ?_
    exact small_rep 2 (by decide) (by decide) (by decide) (by decide) (by decide) h
  · refine small_rep 1 (by decide) (by decide) (by decide) (by decide) (by decide) ?_
    exact small_rep 2 (by decide) (by decide) (by decide) (by decide) (by decide) h'

/-- The five stages of the first merge. -/
theorem merge_32 (v₁ : FVec Ideal S16x512 .f32) (v₂ : IVec S16x512 1) (v₃ v₄ : FVec Ideal S16x512 .f32)
    (h : Rep (α := EReal) (k0_pay13 v₁ v₂ v₃ v₄) c x) :
    Rep (α := EReal) (k0_pay16 (k0_pay13 v₁ v₂ v₃ v₄) (k0_pay14 v₁ v₂ v₃ v₄) (k0_pay15 v₁ v₂ v₃ v₄)) c
      (cx up 1 (cx up 2 (cx up 4 (cx up 8 (cx up 16 x))))) := by
  refine small_rep 1 (by decide) (by decide) (by decide) (by decide) (by decide) ?_
  refine small_rep 2 (by decide) (by decide) (by decide) (by decide) (by decide) ?_
  refine small_rep 4 (by decide) (by decide) (by decide) (by decide) (by decide) ?_
  refine block_rep 4 8 (by decide) (by decide) (by decide) (by decide) ?_
  exact block_rep 2 16 (by decide) (by decide) (by decide) (by decide) h

/-- The columns of the first merge set against those two to the right, and the first stages of the second merge. -/
theorem join_32 (v : FVec Ideal S32x512 .f32) (hc : c + 2 < 512) (h : Rep (α := EReal) v c x)
    (h' : Rep (α := EReal) v (c + 2) y) :
    Rep (α := EReal) (k0_pay18 v (dynamicRotate 1 510#32 none v rotates_S32x512_d1)) c
      (cx up 16 (cx up 32 (join 32 x y))) := by
  refine block_rep 4 16 (by decide) (by decide) (by decide) (by decide) ?_
  refine block_rep 2 32 (by decide) (by decide) (by decide) (by decide) ?_
  exact join_rep (by decide) (by decide) h
    (rev_rep 4 (by decide) (by decide) (by decide) (by decide) (by decide) (by decide)
      (lshift_rep 2 _ (by decide) (by decide) hc h'))

theorem merge_64 (v : FVec Ideal S64x512 .f32) (h : Rep (α := EReal) v c x) :
    Rep (α := EReal) (select k0_pay20 (k0_pay21 v) (maximumf (k0_pay19 v) (k0_pay22 v))) c
      (cx up 1 (cx up 2 (cx up 4 (cx up 8 x)))) := by
  refine small_rep 1 (by decide) (by decide) (by decide) (by decide) (by decide) (h' := rotates_S64x512_d0) ?_
  refine small_rep 2 (by decide) (by decide) (by decide) (by decide) (by decide) ?_
  refine small_rep 4 (by decide) (by decide) (by decide) (by decide) (by decide) ?_
  exact block_rep 8 8 (by decide) (by decide) (by decide) (by decide) h

/-- The columns of the second merge set against those four to the right, and the first stage of the third merge. -/
theorem join_64 (v₁ : FVec Ideal S64x512 .f32) (v₂ : IVec S64x512 1) (v₃ v₄ : FVec Ideal S64x512 .f32) (hc : c + 4 < 512)
    (h : Rep (α := EReal) (select v₂ v₃ (maximumf v₁ v₄)) c x)
    (h' : Rep (α := EReal) (select v₂ v₃ (maximumf v₁ v₄)) (c + 4) y) :
    Rep (α := EReal) (k0_pay23 v₁ v₂ v₃ v₄) c (cx up 64 (join 64 x y)) := by
  refine block_rep 2 64 (by decide) (by decide) (by decide) (by decide) ?_
  exact join_rep (by decide) (by decide) h
    (rev_rep 8 (by decide) (by decide) (by decide) (by decide) (by decide) (by decide)
      (lshift_rep 4 _ (by decide) (by decide) hc h'))

theorem merge_128 (v : FVec Ideal S128x512 .f32)
    (h : Rep (α := EReal) v c x) :
    Rep (α := EReal) (k0_pay28 v (extractStridedSlice S32x512 ![32, 0] v slices_S128x512_o32_0_S32x512)
      (extractStridedSlice S32x512 ![0, 0] v slices_S128x512_o0_0_S32x512)
      (extractStridedSlice S32x512 ![96, 0] v slices_S128x512_o96_0_S32x512)
      (extractStridedSlice S32x512 ![64, 0] v slices_S128x512_o64_0_S32x512)) c (cx up 16 (cx up 32 x)) := by
  refine block_rep 8 16 (by decide) (by decide) (by decide) (by decide) ?_
  exact block_rep 4 32 (by decide) (by decide) (by decide) (by decide) h

/-- The last four stages of the third merge. -/
theorem merge_128' (v₁ : FVec Ideal S128x512 .f32) (v₂ v₃ v₄ v₅ : FVec Ideal S32x512 .f32)
    (h : Rep (α := EReal) (k0_pay28 v₁ v₂ v₃ v₄ v₅) c x) :
    Rep (α := EReal) (k0_pay45 (k0_pay30 v₁ v₂ v₃ v₄ v₅) (k0_pay31 v₁ v₂ v₃ v₄ v₅)
      (k0_pay32 v₁ v₂ v₃ v₄ v₅) (k0_pay33 v₁ v₂ v₃ v₄ v₅) (k0_pay34 v₁ v₂ v₃ v₄ v₅) (k0_pay35 v₁ v₂ v₃ v₄ v₅) (k0_pay36 v₁ v₂ v₃ v₄ v₅) (k0_pay37 v₁ v₂ v₃ v₄ v₅) (k0_pay38 v₁ v₂ v₃ v₄ v₅) (k0_pay39 v₁ v₂ v₃ v₄ v₅) (k0_pay40 v₁ v₂ v₃ v₄ v₅) (k0_pay41 v₁ v₂ v₃ v₄ v₅) (k0_pay42 v₁ v₂ v₃ v₄ v₅) (k0_pay43 v₁ v₂ v₃ v₄ v₅) (k0_pay44 v₁ v₂ v₃ v₄ v₅)) c (cx up 1 (cx up 2 (cx up 4 (cx up 8 x)))) := by
  refine small_rep 1 (by decide) (by decide) (by decide) (by decide) (by decide) ?_
  refine small_rep 2 (by decide) (by decide) (by decide) (by decide) (by decide) ?_
  refine small_rep 4 (by decide) (by decide) (by decide) (by decide) (by decide) ?_
  exact block_rep 16 8 (by decide) (by decide) (by decide) (by decide) h

/-- The columns of the third merge, those eight to the right, turned upside down. -/
theorem reversed_128 (v : FVec Ideal S128x512 .f32) (hc : c + 8 < 512) (h : Rep (α := EReal) v (c + 8) x) :
    Rep (α := EReal) (k0_pay59 (dynamicRotate 1 504#32 none v rotates_S128x512_d1)
      (extractStridedSlice S8x512 ![120, 0] (dynamicRotate 1 504#32 none v rotates_S128x512_d1) slices_S128x512_o120_0_S8x512)
      (extractStridedSlice S8x512 ![112, 0] (dynamicRotate 1 504#32 none v rotates_S128x512_d1) slices_S128x512_o112_0_S8x512)
      (extractStridedSlice S8x512 ![104, 0] (dynamicRotate 1 504#32 none v rotates_S128x512_d1) slices_S128x512_o104_0_S8x512)
      (extractStridedSlice S8x512 ![96, 0] (dynamicRotate 1 504#32 none v rotates_S128x512_d1) slices_S128x512_o96_0_S8x512)
      (extractStridedSlice S8x512 ![88, 0] (dynamicRotate 1 504#32 none v rotates_S128x512_d1) slices_S128x512_o88_0_S8x512)
      (extractStridedSlice S8x512 ![80, 0] (dynamicRotate 1 504#32 none v rotates_S128x512_d1) slices_S128x512_o80_0_S8x512)
      (extractStridedSlice S8x512 ![72, 0] (dynamicRotate 1 504#32 none v rotates_S128x512_d1) slices_S128x512_o72_0_S8x512)
      (extractStridedSlice S8x512 ![64, 0] (dynamicRotate 1 504#32 none v rotates_S128x512_d1) slices_S128x512_o64_0_S8x512)
      (extractStridedSlice S8x512 ![56, 0] (dynamicRotate 1 504#32 none v rotates_S128x512_d1) slices_S128x512_o56_0_S8x512)
      (extractStridedSlice S8x512 ![48, 0] (dynamicRotate 1 504#32 none v rotates_S128x512_d1) slices_S128x512_o48_0_S8x512)
      (extractStridedSlice S8x512 ![40, 0] (dynamicRotate 1 504#32 none v rotates_S128x512_d1) slices_S128x512_o40_0_S8x512)
      (extractStridedSlice S8x512 ![32, 0] (dynamicRotate 1 504#32 none v rotates_S128x512_d1) slices_S128x512_o32_0_S8x512)) c
      (fun r => x (127 - r)) :=
  rev_rep 16 (by decide) (by decide) (by decide) (by decide) (by decide) (by decide)
    (lshift_rep 8 _ (by decide) (by decide) hc h)

end Parts

section Trip

variable (a : Memref sig .tc .vmem S1x4x16x512 .f32) (X : BufTy.Contents (Elt Ideal) a.view.ty)
  (k : Fin k0_t1_loop.trips) (D : ℕ → ℕ → EReal)

/-- Sixteen values, sorted. -/
def P16 (c : ℕ) : ℕ → EReal := net16 (D c)
/-- Thirty-two values, sorted. -/
def P32 (c : ℕ) : ℕ → EReal := merge 4 (P16 D c) (P16 D (c + 1))
/-- Sixty-four values, sorted. -/
def P64 (c : ℕ) : ℕ → EReal := merge 5 (P32 D c) (P32 D (c + 2))
/-- A hundred and twenty-eight values, sorted. -/
def P128 (c : ℕ) : ℕ → EReal := merge 6 (P64 D c) (P64 D (c + 4))

variable {a X k D}

/-- The kernel's columns of a hundred and twenty-eight sorted values. -/
theorem rep_128 (hD : ∀ c < 512, Rep (α := EReal) (trip_k0_t1.sl.r a X k) c (D c)) (c : ℕ) (hc : c + 7 < 512) :
    Rep (α := EReal) (trip_k0_t1.sl.r_36 a X k) c (P128 D c) := by
  have h4 : ∀ c < 512, Rep (α := EReal) (trip_k0_t1.sl.r_4 a X k) c _ := fun c hc =>
    sort_third _ (sort_second _ (sort_first _ (hD c hc)))
  have h7 : ∀ c, c + 1 < 512 → Rep (α := EReal) (trip_k0_t1.sl.r_7 a X k) c (join 16 (P16 D c) (P16 D (c + 1))) :=
    fun c hc => join_16 _ hc (h4 c (by omega)) (h4 (c + 1) hc)
  have h10 : ∀ c, c + 1 < 512 → Rep (α := EReal) (trip_k0_t1.sl.r_10 a X k) c (P32 D c) :=
    fun c hc => merge_32 _ _ _ _ (h7 c hc)
  have h12 : ∀ c, c + 3 < 512 → Rep (α := EReal) (trip_k0_t1.sl.r_12 a X k) c _ :=
    fun c hc => join_32 _ (by omega) (h10 c (by omega)) (h10 (c + 2) (by omega))
  have h12' : ∀ c, c + 3 < 512 → Rep (α := EReal) (select k0_pay20 (k0_pay21 (trip_k0_t1.sl.r_12 a X k))
      (maximumf (k0_pay19 (trip_k0_t1.sl.r_12 a X k)) (k0_pay22 (trip_k0_t1.sl.r_12 a X k)))) c (P64 D c) :=
    fun c hc => merge_64 _ (h12 c hc)
  have h16 : ∀ c, c + 7 < 512 → Rep (α := EReal) (trip_k0_t1.sl.r_16 a X k) c _ :=
    fun c hc => join_64 _ _ _ _ (by omega) (h12' c (by omega)) (h12' (c + 4) (by omega))
  exact merge_128' _ _ _ _ _ (merge_128 _ (h16 c hc))

/-- The kernel's columns of a hundred and twenty-eight sorted values, eight columns to the right and upside down. -/
theorem rep_128' (hD : ∀ c < 512, Rep (α := EReal) (trip_k0_t1.sl.r a X k) c (D c)) (c : ℕ) (hc : c + 15 < 512) :
    Rep (α := EReal) (trip_k0_t1.sl.r_50 a X k) c (fun r => P128 D (c + 8) (127 - r)) :=
  reversed_128 (trip_k0_t1.sl.r_36 a X k) (by omega) (rep_128 hD (c + 8) (by omega))

/-- The sum of a column and the one `s` to the right. -/
def dbl (s : ℕ) (t : ℕ → EReal) (c : ℕ) : EReal := t c + t (c + s)

/-- The sum of sixteen columns, by doubling. -/
def window (t : ℕ → EReal) : ℕ → EReal := dbl 8 (dbl 4 (dbl 2 (dbl 1 t)))

/-- The mean of sixteen columns, from their sums. -/
def meanOf (t : ℕ → EReal) (c : ℕ) : EReal := window t c * FloatOps.ofBits (F := Ideal) .f32 0x3B800000#32

/-- The standard deviation of sixteen columns, from their sums and the sums of their squares. -/
def stdOf (t q : ℕ → EReal) (c : ℕ) : EReal :=
  Ideal.sqrt (max (meanOf q c - meanOf t c * meanOf t c) (FloatOps.ofBits (F := Ideal) .f32 0x00000000#32))

/-- The sum of the sixteen rows of a column. -/
def colSum (x : ℕ → EReal) : EReal := ∑ r : Fin 16, x r.val

theorem dbl_rep {v : FVec Ideal S1x512 .f32} {t : ℕ → EReal} (s : ℕ) (b : BitVec 32) (hb : b.toNat = 512 - s) (hs : 0 < s)
    {c : ℕ} (hc : c + s < 512)
    (h : Rep (α := EReal) v c fun _ => t c) (h' : Rep (α := EReal) v (c + s) fun _ => t (c + s)) :
    Rep (α := EReal) (addf v (dynamicRotate 1 b none v rotates_S1x512_d1)) c (fun _ => dbl s t c) := fun k hk =>
  congrArg₂ (· + ·) (h k hk) (lshift_rep s b hb hs hc h' k hk)

/-- The sum of sixteen columns, as the kernel takes it: by four rotations. -/
theorem window_rep {v A : FVec Ideal S1x512 .f32} {t : ℕ → EReal} (h : ∀ c < 512, Rep (α := EReal) v c fun _ => t c)
    (hA : A = addf (addf (addf v (dynamicRotate 1 511#32 none v rotates_S1x512_d1))
      (dynamicRotate 1 510#32 none (addf v (dynamicRotate 1 511#32 none v rotates_S1x512_d1)) rotates_S1x512_d1))
      (dynamicRotate 1 508#32 none (addf (addf v (dynamicRotate 1 511#32 none v rotates_S1x512_d1))
        (dynamicRotate 1 510#32 none (addf v (dynamicRotate 1 511#32 none v rotates_S1x512_d1)) rotates_S1x512_d1))
        rotates_S1x512_d1)) (c : ℕ) (hc : c + 15 < 512) :
    Rep (α := EReal) (addf A (dynamicRotate 1 504#32 none A rotates_S1x512_d1)) c (fun _ => window t c) := by
  have h1 : ∀ c, c + 1 < 512 → Rep (α := EReal) (addf v (dynamicRotate 1 511#32 none v rotates_S1x512_d1)) c
      fun _ => dbl 1 t c := fun c hc => dbl_rep 1 _ (by decide) (by decide) hc (h c (by omega)) (h (c + 1) hc)
  have h2 : ∀ c, c + 3 < 512 → Rep (α := EReal) _ c fun _ => dbl 2 (dbl 1 t) c :=
    fun c hc => dbl_rep 2 510#32 (by decide) (by decide) (by omega) (h1 c (by omega)) (h1 (c + 2) (by omega))
  have h3 : ∀ c, c + 7 < 512 → Rep (α := EReal) A c fun _ => dbl 4 (dbl 2 (dbl 1 t)) c := fun c hc => by
    rw [hA]
    exact dbl_rep 4 508#32 (by decide) (by decide) (by omega) (h2 c (by omega)) (h2 (c + 4) (by omega))
  exact dbl_rep 8 504#32 (by decide) (by decide) (by omega) (h3 c (by omega)) (h3 (c + 8) (by omega))

theorem mean_rep (v : FVec Ideal S16x512 .f32) (hv : ∀ c < 512, Rep (α := EReal) v c (D c)) (c : ℕ) (hc : c + 15 < 512) :
    Rep (α := EReal) (k0_pay63 (k0_pay60 v) (k0_pay62 v)) c (fun _ => meanOf (fun c => colSum (D c)) c) := fun k hk =>
  congrArg (fun z : EReal => z * FloatOps.ofBits (F := Ideal) .f32 0x3B800000#32)
    (window_rep (fun c hc => sum_rep (hv c hc) reduces_S16x512_S512 (.inl rfl) rfl shapeCasts_S512_S1x512) rfl c hc k hk)

/-- The squares of an array. -/
theorem square_rep {v : FVec Ideal S16x512 .f32} {c : ℕ} {x : ℕ → EReal} (h : Rep (α := EReal) v c x) :
    Rep (α := EReal) (mulf v v) c (fun r => x r * x r) := fun k hk =>
  congrArg₂ (fun a b : EReal => a * b) (h k hk) (h k hk)

set_option maxRecDepth 10000 in
theorem std_rep (v : FVec Ideal S16x512 .f32) (hv : ∀ c < 512, Rep (α := EReal) v c (D c)) (c : ℕ) (hc : c + 15 < 512) :
    Rep (α := EReal) (k0_pay64 (k0_pay60 v) (k0_pay61 v) (k0_pay62 v)) c
      (fun _ => stdOf (fun c => colSum (D c)) (fun c => colSum fun r => D c r * D c r) c) := fun k hk => by
  have hm := mean_rep v hv c hc k hk
  have hq := window_rep (A := addf (k0_pay61 v) (dynamicRotate 1 508#32 none (k0_pay61 v) rotates_S1x512_d1))
    (fun c hc => sum_rep (square_rep (hv c hc)) reduces_S16x512_S512 (.inl rfl) rfl shapeCasts_S512_S1x512) rfl c hc k hk
  exact (congrArg₂ (fun q m : EReal => Ideal.sqrt (max (q * FloatOps.ofBits (F := Ideal) .f32 0x3B800000#32 - m * m)
    (FloatOps.ofBits (F := Ideal) .f32 0x00000000#32))) hq hm :)

end Trip

end Cert.Proof.Columns
-- ==== Proof.Tile.lean ====
/- What the kernel computes for a tile of a hundred and twenty-eight columns: the statistics of each column's two hundred
   and fifty-six values. The network that merges the two halves of a column is carried out in full only for the rows the
   quartiles need; a stage of a piece of a column is the piece of the stage of the column. -/
module

public import proofs.«01_k».proof.Proof.Gen.KernelIdeal.Loops
public import proofs.«01_k».proof.Proof.Stages

@[expose] public section

noncomputable section

namespace Cert.Proof.Tile

open Idealize.ShloMosaic Cert.Proof.Sort Cert.Proof.Stages Cert.KernelIdeal Cert.KernelIdeal.Gen

section Combinators

variable {n w : ℕ}

/-- A stage between whole blocks of `m` rows. -/
def blk (N m : ℕ) (hN : 0 < N) (h2 : N % 2 = 0) (hn : n = N * m) (X : FVec Ideal (Sh n w) .f32) : FVec Ideal (Sh n w) .f32 :=
  concatenate (Sh n w) 0 (woven N m hN hn
      (minimumf X (concatenate (Sh n w) 0 (swapped N m hN hn X) (tab_concat (by omega) hn _)))
      (maximumf X (concatenate (Sh n w) 0 (swapped N m hN hn X) (tab_concat (by omega) hn _))))
    (tab_concat (by omega) hn _)

/-- A stage between rows `j` apart, by rotations. -/
def sml (j : ℕ) (a : BitVec 32) (i : (Sh n w).Iotas .tc 32 [0]) (h : (Sh n w).Rotates 0 none) (X : FVec Ideal (Sh n w) .f32) :
    FVec Ideal (Sh n w) .f32 :=
  select (cmpi .eq (andi (iota .tc (Sh n w) 32 [0] i) (broadcast (Sh n w) (BitVec.ofNat 32 j))) (broadcast (Sh n w) 0#32))
    (minimumf X (dynamicRotate 0 a none X h)) (maximumf X (dynamicRotate 0 (BitVec.ofNat 32 j) none X h))

variable {X : FVec Ideal (Sh n w) .f32} {c : ℕ} {x : ℕ → EReal}

theorem blk_rep {N m : ℕ} {hN : 0 < N} {h2 : N % 2 = 0} {hn : n = N * m} (hm : 0 < m) (hX : Rep (α := EReal) X c x) :
    Rep (α := EReal) (blk N m hN h2 hn X) c (cx up m x) := block_rep N m hN hm h2 hn hX

theorem sml_rep {j : ℕ} {a : BitVec 32} {i : (Sh n w).Iotas .tc 32 [0]} {h : (Sh n w).Rotates 0 none}
    (hj : j = 1 ∨ j = 2 ∨ j = 4 ∨ j = 8) (hn : n ≤ 128) (h2 : 2 * j ∣ n) (ha : a.toNat = n - j)
    (hX : Rep (α := EReal) X c x) : Rep (α := EReal) (sml j a i h X) c (cx up j x) :=
  small_rep j hj hn h2 ha (by obtain rfl | rfl | rfl | rfl := hj <;> rfl) hX

end Combinators

/-! ## The two halves merged, where the quartiles stand -/

/-- The rows a tile keeps: sixteen about each quartile. -/
def kept (X : FVec Ideal (Sh 160 128) .f32) : FVec Ideal (Sh 48 128) .f32 :=
  concatenate (Sh 48 128) 0 (tab 3 fun b => ⟨Sh 16 128, extractStridedSlice (Sh 16 128) ![(b % 3 * 8 + 1) * 8, 0] X
    ⟨rfl, fun a => by
      have : b % 3 < 3 := Nat.mod_lt _ (by decide)
      fin_cases a
      · show (b % 3 * 8 + 1) * 8 + 16 ≤ 160
        omega
      · show 0 + 128 ≤ 128
        omega⟩⟩) (tab_concat (by decide) (by decide) _)

theorem kept_rep {X : FVec Ideal (Sh 160 128) .f32} {c : ℕ} {x : ℕ → EReal} (hX : Rep (α := EReal) X c x) :
    Rep (α := EReal) (kept X) c (fun r => x ((r / 16 % 3 * 8 + 1) * 8 + r % 16)) :=
  (stack_rep 3 (by decide) (by decide) _ (fun b r => x ((b % 3 * 8 + 1) * 8 + r)) fun b _ =>
    slice_rep _ 0 (by rw [Nat.zero_add]; exact hX))

/-- The stages of the merge, the rows a quartile does not need dropped on the way. -/
def pruned (s : FVec Ideal (Sh 256 128) .f32) : FVec Ideal (Sh 48 128) .f32 :=
  sml 1 47#32 iota_S48x128_d0_w32 rotates_S48x128_d0 <|
  sml 2 46#32 iota_S48x128_d0_w32 rotates_S48x128_d0 <|
  sml 4 44#32 iota_S48x128_d0_w32 rotates_S48x128_d0 <| kept <|
  blk 20 8 (by decide) (by decide) (by decide) <| (extractStridedSlice (Sh 160 128) ![16, 0] · slices_S192x128_o16_0_S160x128) <|
  blk 12 16 (by decide) (by decide) (by decide) <| (extractStridedSlice (Sh 192 128) ![32, 0] · slices_S256x128_o32_0_S192x128) <|
  blk 8 32 (by decide) (by decide) (by decide) <|
  blk 4 64 (by decide) (by decide) (by decide) <|
  blk 2 128 (by decide) (by decide) (by decide) s

/-- The row of the whole column that a kept row is. -/
def place (r : ℕ) : ℕ := 56 + 64 * (r / 16) + r % 16

theorem pruned_rep {s : FVec Ideal (Sh 256 128) .f32} {c : ℕ} {x : ℕ → EReal} (hs : Rep (α := EReal) s c x) :
    Rep (α := EReal) (pruned s) c (fun r => net up 8 x (place r)) := by
  refine Rep.congr (sml_rep (by decide) (by decide) (by decide) (by decide) <|
    sml_rep (by decide) (by decide) (by decide) (by decide) <|
    sml_rep (by decide) (by decide) (by decide) (by decide) <| kept_rep <| blk_rep (by decide) <| slice_rep 16 0 <|
    (by rw [Nat.zero_add]; exact blk_rep (by decide) (slice_rep 32 0 (by
      rw [Nat.zero_add]; exact blk_rep (by decide) (blk_rep (by decide) (blk_rep (by decide) hs)))))) fun r hr => ?_
  have h16 := cx_part (cx up 32 (cx up 64 (cx up 128 x))) (j := 16) (φ := fun r => 32 + r)
    (fun i => by omega) (fun i _ => by omega) (fun i _ => by omega)
  have h8 := cx_part (cx up 16 (cx up 32 (cx up 64 (cx up 128 x)))) (j := 8) (φ := fun r => 32 + (16 + r))
    (fun i => by omega) (fun i _ => by omega) (fun i _ => by omega)
  have h4 := cx_part (cx up 8 (cx up 16 (cx up 32 (cx up 64 (cx up 128 x))))) (j := 4)
    (φ := fun r => 32 + (16 + ((r / 16 % 3 * 8 + 1) * 8 + r % 16)))
    (fun i => by omega) (fun i _ => by omega) (fun i _ => by omega)
  have h2 := cx_part (cx up 4 (cx up 8 (cx up 16 (cx up 32 (cx up 64 (cx up 128 x)))))) (j := 2)
    (φ := fun r => 32 + (16 + ((r / 16 % 3 * 8 + 1) * 8 + r % 16)))
    (fun i => by omega) (fun i _ => by omega) (fun i _ => by omega)
  have h1 := cx_part (cx up 2 (cx up 4 (cx up 8 (cx up 16 (cx up 32 (cx up 64 (cx up 128 x))))))) (j := 1)
    (φ := fun r => 32 + (16 + ((r / 16 % 3 * 8 + 1) * 8 + r % 16)))
    (fun i => by omega) (fun i _ => by omega) (fun i _ => by omega)
  beta_reduce at h16 h8 h4 h2 h1 ⊢
  rw [h16, h8, h4, h2, h1]
  show cx up 1 _ _ = cx up 1 _ _
  congr 1
  unfold place
  omega

/-! ## The statistics -/

/-- The whole columns of a tile: two runs of a hundred and twenty-eight values. -/
def whole (p hi : FVec Ideal (Sh 128 512) .f32) (q : ℕ) (hs : (Sh 128 512).Slices ![0, q] (Sh 128 128)) :
    FVec Ideal (Sh 256 128) .f32 :=
  concatenate (Sh 256 128) 0 ([⟨Sh 128 128, extractStridedSlice (Sh 128 128) ![0, q] p hs⟩,
    ⟨Sh 128 128, extractStridedSlice (Sh 128 128) ![0, q] hi hs⟩] : List ((s : Shape) × (s.Idx → Ideal .f32)))
    concatenates_S128x128_S128x128_S256x128_d0

/-- One row of an array. -/
def one {n : ℕ} (r : ℕ) (X : FVec Ideal (Sh n 128) .f32) (h : (Sh n 128).Slices ![r, 0] (Sh 1 128)) : FVec Ideal (Sh 1 128) .f32 :=
  extractStridedSlice (Sh 1 128) ![r, 0] X h

/-- A row times a constant. -/
def scaled (w : BitVec 32) (X : FVec Ideal (Sh 1 128) .f32) : FVec Ideal (Sh 1 128) .f32 :=
  mulf (broadcast (Sh 1 128) (Scalar.ofBits .f32 w)) X

/-- How many rows compare with a mean. -/
def count (o : CmpFPredicate) (s : FVec Ideal (Sh 256 128) .f32) (m : FVec Ideal (Sh 1 128) .f32) : FVec Ideal (Sh 1 128) .f32 :=
  shapeCast (Sh 1 128) (multiReduction (F := Ideal) .add [0] S128
    (select (cmpf o s (broadcastTo S256x128 m broadcasts_S1x128_S256x128))
      (broadcast S256x128 (Scalar.ofBits (F := Ideal) .f32 0x3F800000#32)) (broadcast S256x128 (Scalar.ofBits (F := Ideal) .f32 0x00000000#32)))
    0x00000000#32 reduces_S256x128_S128 (.inl rfl) rfl) shapeCasts_S128_S1x128

/-- The eight rows of statistics. -/
def stats (s : FVec Ideal (Sh 256 128) .f32) (z : FVec Ideal (Sh 48 128) .f32) (m sd : FVec Ideal (Sh 1 128) .f32) :
    ℕ → FVec Ideal (Sh 1 128) .f32
  | 0 => m
  | 1 => sd
  | 2 => minimumf (one 0 s slices_S256x128_o0_0_S1x128) (one 255 s slices_S256x128_o255_0_S1x128)
  | 3 => maximumf (one 127 s slices_S256x128_o127_0_S1x128) (one 128 s slices_S256x128_o128_0_S1x128)
  | 4 => scaled 0x3F000000#32 (addf (one 23 z slices_S48x128_o23_0_S1x128) (one 24 z slices_S48x128_o24_0_S1x128))
  | 5 => subf (addf (scaled 0x3F400000#32 (one 39 z slices_S48x128_o39_0_S1x128))
      (scaled 0x3E800000#32 (one 40 z slices_S48x128_o40_0_S1x128)))
    (addf (scaled 0x3E800000#32 (one 7 z slices_S48x128_o7_0_S1x128)) (scaled 0x3F400000#32 (one 8 z slices_S48x128_o8_0_S1x128)))
  | 6 => count .ogt s m
  | _ => count .olt s m

/-- A tile of results. -/
def tile (p hi : FVec Ideal (Sh 128 512) .f32) (mean sd : FVec Ideal (Sh 1 512) .f32) (q : ℕ)
    (hs : (Sh 128 512).Slices ![0, q] (Sh 128 128)) (h1 : (Sh 1 512).Slices ![0, q] (Sh 1 128)) : FVec Ideal (Sh 8 128) .f32 :=
  concatenate (Sh 8 128) 0 (tab 8 fun b => ⟨Sh 1 128, stats (whole p hi q hs) (pruned (whole p hi q hs))
    (extractStridedSlice (Sh 1 128) ![0, q] mean h1) (extractStridedSlice (Sh 1 128) ![0, q] sd h1) b⟩)
    (tab_concat (by decide) (by decide) _)

/-- The statistics of a column `x`, whose sorted values are `y`, with its mean and its standard deviation. -/
def rowOf (m sd : EReal) (x y : ℕ → EReal) : ℕ → EReal
  | 0 => m
  | 1 => sd
  | 2 => x 0 ⊓ x 255
  | 3 => x 127 ⊔ x 128
  | 4 => Ideal.ofBits .f32 0x3F000000#32 * (y 127 + y 128)
  | 5 => (Ideal.ofBits .f32 0x3F400000#32 * y 191 + Ideal.ofBits .f32 0x3E800000#32 * y 192)
      - (Ideal.ofBits .f32 0x3E800000#32 * y 63 + Ideal.ofBits .f32 0x3F400000#32 * y 64)
  | 6 => ∑ r : Fin 256, if m < x r.val then Ideal.ofBits .f32 0x3F800000#32 else Ideal.ofBits .f32 0x00000000#32
  | _ => ∑ r : Fin 256, if x r.val < m then Ideal.ofBits .f32 0x3F800000#32 else Ideal.ofBits .f32 0x00000000#32

section Spec

variable {c : ℕ} {x : ℕ → EReal}

theorem one_rep {n : ℕ} (r : ℕ) {X : FVec Ideal (Sh n 128) .f32} {h : (Sh n 128).Slices ![r, 0] (Sh 1 128)}
    (hX : Rep (α := EReal) X c x) : Rep (α := EReal) (one r X h) c (fun _ => x r) :=
  (slice_rep r 0 (by rw [Nat.zero_add]; exact hX)).congr fun i hi => by
    obtain rfl : i = 0 := by omega
    rfl

theorem scaled_rep (b : BitVec 32) {X : FVec Ideal (Sh 1 128) .f32} (hX : Rep (α := EReal) X c x) :
    Rep (α := EReal) (scaled b X) c (fun r => Ideal.ofBits .f32 b * x r) := fun k hk =>
  congrArg (fun z : EReal => Ideal.ofBits .f32 b * z) (hX k hk)

theorem add_rep {X Y : FVec Ideal (Sh 1 128) .f32} {y : ℕ → EReal} (hX : Rep (α := EReal) X c x) (hY : Rep (α := EReal) Y c y) :
    Rep (α := EReal) (addf X Y) c (fun r => x r + y r) := fun k hk =>
  congrArg₂ (fun a b : EReal => a + b) (hX k hk) (hY k hk)

theorem sub_rep {X Y : FVec Ideal (Sh 1 128) .f32} {y : ℕ → EReal} (hX : Rep (α := EReal) X c x) (hY : Rep (α := EReal) Y c y) :
    Rep (α := EReal) (subf X Y) c (fun r => x r - y r) := fun k hk =>
  congrArg₂ (fun a b : EReal => a - b) (hX k hk) (hY k hk)

/-- One row, read at every row of a taller array. -/
theorem spread_rep {X : FVec Ideal (Sh 1 128) .f32} {m : EReal} (h : (Sh 1 128).Broadcasts (Sh 256 128))
    (hX : Rep (α := EReal) X c fun _ => m) : Rep (α := EReal) (broadcastTo (Sh 256 128) X h) c (fun _ => m) := fun k hk => by
  rw [broadcastTo_apply X h k (ix2 0 (k 1)) (fun b => by fin_cases b <;> rfl)]
  exact hX _ hk

theorem bit_ite (p : Prop) [Decidable p] (u v : EReal) : (if BitVec.ofBool (decide p) = 1#1 then u else v) = if p then u else v := by
  by_cases h : p
  · rw [if_pos h, decide_eq_true h]; rfl
  · rw [if_neg h, decide_eq_false h]; rfl

theorem above_rep {s : FVec Ideal (Sh 256 128) .f32} {X : FVec Ideal (Sh 1 128) .f32} {m : EReal} (hs : Rep (α := EReal) s c x)
    (hX : Rep (α := EReal) X c fun _ => m) : Rep (α := EReal) (count .ogt s X) c (fun _ => ∑ r : Fin 256,
      if m < x r.val then Ideal.ofBits .f32 0x3F800000#32 else Ideal.ofBits .f32 0x00000000#32) := by
  refine sum_rep (x := fun r => if m < x r then Ideal.ofBits .f32 0x3F800000#32 else Ideal.ofBits .f32 0x00000000#32)
    (fun k hk => ?_) reduces_S256x128_S128 (.inl rfl) rfl shapeCasts_S128_S1x128
  have h := spread_rep broadcasts_S1x128_S256x128 hX k hk
  show (if BitVec.ofBool (decide (broadcastTo S256x128 X broadcasts_S1x128_S256x128 k < s k)) = 1#1 then _ else _) = _
  rw [bit_ite, h, hs k hk]
  rfl

theorem below_rep {s : FVec Ideal (Sh 256 128) .f32} {X : FVec Ideal (Sh 1 128) .f32} {m : EReal} (hs : Rep (α := EReal) s c x)
    (hX : Rep (α := EReal) X c fun _ => m) : Rep (α := EReal) (count .olt s X) c (fun _ => ∑ r : Fin 256,
      if x r.val < m then Ideal.ofBits .f32 0x3F800000#32 else Ideal.ofBits .f32 0x00000000#32) := by
  refine sum_rep (x := fun r => if x r < m then Ideal.ofBits .f32 0x3F800000#32 else Ideal.ofBits .f32 0x00000000#32)
    (fun k hk => ?_) reduces_S256x128_S128 (.inl rfl) rfl shapeCasts_S128_S1x128
  have h := spread_rep broadcasts_S1x128_S256x128 hX k hk
  show (if BitVec.ofBool (decide (s k < broadcastTo S256x128 X broadcasts_S1x128_S256x128 k)) = 1#1 then _ else _) = _
  rw [bit_ite, h, hs k hk]
  rfl

theorem stats_rep {s : FVec Ideal (Sh 256 128) .f32} {z : FVec Ideal (Sh 48 128) .f32} {M S : FVec Ideal (Sh 1 128) .f32}
    {m sd : EReal} {y : ℕ → EReal} (hs : Rep (α := EReal) s c x) (hz : Rep (α := EReal) z c fun r => y (place r))
    (hM : Rep (α := EReal) M c fun _ => m) (hS : Rep (α := EReal) S c fun _ => sd) :
    ∀ b < 8, Rep (α := EReal) (stats s z M S b) c (fun _ => rowOf m sd x y b)
  | 0, _ => hM
  | 1, _ => hS
  | 2, _ => min_rep (one_rep 0 hs) (one_rep 255 hs)
  | 3, _ => max_rep (one_rep 127 hs) (one_rep 128 hs)
  | 4, _ => scaled_rep _ (add_rep (one_rep 23 hz) (one_rep 24 hz))
  | 5, _ => sub_rep (add_rep (scaled_rep _ (one_rep 39 hz)) (scaled_rep _ (one_rep 40 hz)))
      (add_rep (scaled_rep _ (one_rep 7 hz)) (scaled_rep _ (one_rep 8 hz)))
  | 6, _ => above_rep hs hM
  | 7, _ => below_rep hs hM
  | b + 8, h => absurd h (by omega)

/-- A column of a tile is the statistics of the column of the kernel that stands there. -/
theorem tile_rep {p hi : FVec Ideal (Sh 128 512) .f32} {mean sd : FVec Ideal (Sh 1 512) .f32} {q : ℕ}
    {hs : (Sh 128 512).Slices ![0, q] (Sh 128 128)} {h1 : (Sh 1 512).Slices ![0, q] (Sh 1 128)} {P Q : ℕ → EReal} {m σ : EReal}
    (hp : Rep (α := EReal) p (q + c) P) (hq : Rep (α := EReal) hi (q + c) fun r => Q (127 - r))
    (hm : Rep (α := EReal) mean (q + c) fun _ => m) (hσ : Rep (α := EReal) sd (q + c) fun _ => σ) :
    Rep (α := EReal) (tile p hi mean sd q hs h1) c (rowOf m σ (join 128 P Q) (merge 7 P Q)) := by
  have hw : Rep (α := EReal) (whole p hi q hs) c (join 128 P Q) :=
    join_rep (by decide) (by decide) ((slice_rep 0 q hp).congr fun r _ => by rw [Nat.zero_add])
      ((slice_rep 0 q hq).congr fun r _ => by rw [Nat.zero_add])
  have hz := pruned_rep hw
  refine (stack_rep 8 (by decide) (by decide) _ (fun b _ => rowOf m σ (join 128 P Q) (merge 7 P Q) b)
    (stats_rep hw hz (slice_rep 0 q hm) (slice_rep 0 q hσ))).congr fun r _ => ?_
  rw [Nat.div_one]

end Spec

/-! ## What the kernel writes are such tiles -/

variable {a : Memref sig .tc .vmem S1x4x16x512 .f32} {X : BufTy.Contents (Elt Ideal) a.view.ty} {k : Fin k0_t1_loop.trips}

set_option maxRecDepth 100000 in
theorem stored_0 : k0_pay94 (trip_k0_t1.sl.r_78 a X k) = shapeCast S1x1x8x128 (tile (trip_k0_t1.sl.r_36 a X k)
    (trip_k0_t1.sl.r_50 a X k) (trip_k0_t1.sl.r_54 a X k) (trip_k0_t1.sl.r_55 a X k) 0 slices_S128x512_o0_0_S128x128
    slices_S1x512_o0_0_S1x128) shapeCasts_S8x128_S1x1x8x128 := rfl

set_option maxRecDepth 100000 in
theorem stored_1 : k0_pay121 (trip_k0_t1.sl.r_79 a X k) (trip_k0_t1.sl.r_80 a X k) (trip_k0_t1.sl.r_81 a X k)
    (trip_k0_t1.sl.r_82 a X k) (trip_k0_t1.sl.r_83 a X k) (trip_k0_t1.sl.r_84 a X k) (trip_k0_t1.sl.r_101 a X k) k0_pay119 (trip_k0_t1.sl.r_102 a X k) = shapeCast S1x1x8x128 (tile (trip_k0_t1.sl.r_36 a X k)
    (trip_k0_t1.sl.r_50 a X k) (trip_k0_t1.sl.r_54 a X k) (trip_k0_t1.sl.r_55 a X k) 128 slices_S128x512_o0_128_S128x128
    slices_S1x512_o0_128_S1x128) shapeCasts_S8x128_S1x1x8x128 := rfl

set_option maxRecDepth 100000 in
theorem stored_2 : k0_pay150 (trip_k0_t1.sl.r_104 a X k) (trip_k0_t1.sl.r_105 a X k) (trip_k0_t1.sl.r_106 a X k)
    (trip_k0_t1.sl.r_107 a X k) (trip_k0_t1.sl.r_108 a X k) (trip_k0_t1.sl.r_109 a X k) (trip_k0_t1.sl.r_124 a X k) k0_pay148 (trip_k0_t1.sl.r_125 a X k) 1#32 = shapeCast S1x1x8x128 (tile (trip_k0_t1.sl.r_36 a X k)
    (trip_k0_t1.sl.r_50 a X k) (trip_k0_t1.sl.r_54 a X k) (trip_k0_t1.sl.r_55 a X k) 256 slices_S128x512_o0_256_S128x128
    slices_S1x512_o0_256_S1x128) shapeCasts_S8x128_S1x1x8x128 := rfl

set_option maxRecDepth 100000 in
theorem stored_3 : k0_pay1 (trip_k0_t1.sl.r_127 a X k) (trip_k0_t1.sl.r_128 a X k) (trip_k0_t1.sl.r_129 a X k)
    (trip_k0_t1.sl.r_130 a X k) (trip_k0_t1.sl.r_131 a X k) (trip_k0_t1.sl.r_133 a X k)
    (trip_k0_t1.sl.r_166 a X k) (trip_k0_t1.sl.r_167 a X k) (trip_k0_t1.sl.r_168 a X k) = shapeCast S1x1x8x128 (tile (trip_k0_t1.sl.r_36 a X k)
    (trip_k0_t1.sl.r_50 a X k) (trip_k0_t1.sl.r_54 a X k) (trip_k0_t1.sl.r_55 a X k) 384 slices_S128x512_o0_384_S128x128
    slices_S1x512_o0_384_S1x128) shapeCasts_S8x128_S1x1x8x128 := rfl

end Cert.Proof.Tile
-- ==== Proof.Block.lean ====
/- What a grid point leaves in its block: the eight statistics of every column whose window lies inside the array. -/
module

public import proofs.«01_k».proof.Proof.Gen.KernelIdeal.Frame
public import proofs.«01_k».proof.Proof.Columns
public import proofs.«01_k».proof.Proof.Tile
public import Idealize.ShloMosaic.Lib.Writes
public import Idealize.ShloMosaic.Lib.WholeRead
public import Idealize.ShloMosaic.Lib.Pipeline.Value

@[expose] public section

noncomputable section

namespace Cert.Proof.Block

open Idealize.ShloMosaic Cert.Proof.Sort Cert.Proof.Stages Cert.Proof.Columns Cert.Proof.Tile Cert.KernelIdeal Cert.KernelIdeal.Gen

/-- The values of channel `f` of a block, by column and row. -/
def chan (x0 : Vec Ideal S1x4x16x512 .f32) (f c r : ℕ) : EReal :=
  if h : f < 4 ∧ r < 16 ∧ c < 512 then x0 (ix4 (0 : Fin 1) ⟨f, h.1⟩ ⟨r, h.2.1⟩ ⟨c, h.2.2⟩) else 0

/-- The statistics of a column of columns `D`: row `b` of what the kernel stores for column `c`. -/
def stat (D : ℕ → ℕ → EReal) (c b : ℕ) : EReal :=
  rowOf (meanOf (fun c => colSum (D c)) c) (stdOf (fun c => colSum (D c)) (fun c => colSum fun r => D c r * D c r) c)
    (join 128 (P128 D c) (P128 D (c + 8))) (merge 7 (P128 D c) (P128 D (c + 8))) b

section

variable {arg1 : Memref sig .tc .vmem S1x4x16x512 .f32}

/-- The channel a trip loads. -/
theorem load_rep (harg1 : arg1.IsWhole) (x0 : Vec Ideal S1x4x16x512 .f32) (k : Fin k0_t1_loop.trips) (c : ℕ) (hc : c < 512) :
    Rep (α := EReal) (trip_k0_t1.sl.r arg1 (harg1.unread x0) k) c (chan x0 k.val c) := by
  intro j hj
  have h0 : (j 0).val < 16 := (j 0).isLt
  have h1 : k.val < 4 := k.isLt
  show shapeCast S16x512 (View.readAt (Elt Ideal) arg1.view (Rect.unit (s := S1x4x16x512) (k0_off1 k) S1x1x16x512.size
    (k0_off1_inb k)).toLoadRect (harg1.unread x0)) shapeCasts_S1x1x16x512_S16x512 j = _
  refine (shapeCast_apply (s := S1x1x16x512) (t := S16x512) _ _ (j : S16x512.Idx) (ix4 (0 : Fin 1) (0 : Fin 1) (j 0) (j 1))
    (by rw [Shape.rowMajor_val_four, Shape.rowMajor_val_two]; simp [ix4])).trans ?_
  rw [harg1.readAt_unread]
  unfold chan
  rw [dif_pos ⟨h1, h0, hc⟩]
  congr 1
  funext a
  apply Fin.ext
  rw [LoadRect.idx_apply]
  have e0 : k0_off1 k 0 = 0 := congrFun (k0_off1_eq k) 0
  have e1 : k0_off1 k 1 = k.val := congrFun (k0_off1_eq k) 1
  have e2 : k0_off1 k 2 = 0 := congrFun (k0_off1_eq k) 2
  have e3 : k0_off1 k 3 = 0 := congrFun (k0_off1_eq k) 3
  fin_cases a
  · show k0_off1 k 0 + 1 * 0 = 0
    omega
  · show k0_off1 k 1 + 1 * 0 = k.val
    omega
  · show k0_off1 k 2 + 1 * (j 0).val = (j 0).val
    omega
  · show k0_off1 k 3 + 1 * (j 1).val = c
    omega

variable {a : Memref sig .tc .vmem S1x4x16x512 .f32} {X : BufTy.Contents (Elt Ideal) a.view.ty}

theorem hs_ok {q : ℕ} (h : q + 128 ≤ 512) : (Sh 128 512).Slices ![0, q] (Sh 128 128) :=
  ⟨rfl, fun x => by
    fin_cases x
    · show 0 + 128 ≤ 128
      omega
    · exact h⟩

theorem h1_ok {q : ℕ} (h : q + 128 ≤ 512) : (Sh 1 512).Slices ![0, q] (Sh 1 128) :=
  ⟨rfl, fun x => by
    fin_cases x
    · show 0 + 1 ≤ 1
      omega
    · exact h⟩

/-- The tile of a trip that starts at column `q`. -/
def piece (a : Memref sig .tc .vmem S1x4x16x512 .f32) (X : BufTy.Contents (Elt Ideal) a.view.ty) (k : Fin k0_t1_loop.trips) (q : ℕ)
    (h : q + 128 ≤ 512) : FVec Ideal (Sh 8 128) .f32 :=
  tile (trip_k0_t1.sl.r_36 a X k) (trip_k0_t1.sl.r_50 a X k) (trip_k0_t1.sl.r_54 a X k) (trip_k0_t1.sl.r_55 a X k) q (hs_ok h) (h1_ok h)

theorem piece_rep (k : Fin k0_t1_loop.trips) (q : ℕ) (h : q + 128 ≤ 512) (D : ℕ → ℕ → EReal)
    (hD : ∀ c < 512, Rep (α := EReal) (trip_k0_t1.sl.r a X k) c (D c)) (c : ℕ) (hc : q + c + 15 < 512) :
    Rep (α := EReal) (piece a X k q h) c (stat D (q + c)) :=
  tile_rep (rep_128 hD _ (by omega)) (rep_128' hD _ hc) (mean_rep (trip_k0_t1.sl.r a X k) hD _ hc)
    (std_rep (trip_k0_t1.sl.r a X k) hD _ hc)

/-- What every element of the block holds after the four trips. -/
def held (a : Memref sig .tc .vmem S1x4x16x512 .f32) (X : BufTy.Contents (Elt Ideal) a.view.ty) (y : S1x4x8x512.Idx) : EReal :=
  piece a X ⟨(y 1).val, (y 1).isLt⟩ (128 * ((y 3).val / 128)) (by have : (y 3).val < 512 := (y 3).isLt; omega)
    (ix2 (y 2) ⟨(y 3).val % 128, Nat.mod_lt _ (by decide)⟩)

theorem held_eq (k : Fin k0_t1_loop.trips) (o : ℕ) (h : o + 128 ≤ 512) (ho : 128 ∣ o) (x : S1x1x8x128.Idx) (y : S1x4x8x512.Idx)
    (h1 : (y 1).val = k.val) (h2 : (y 2).val = (x 2).val) (h3 : (y 3).val = o + (x 3).val) :
    shapeCast S1x1x8x128 (piece a X k o h) shapeCasts_S8x128_S1x1x8x128 x = held a X y := by
  have b0 : (x 0).val < 1 := (x 0).isLt
  have b1 : (x 1).val < 1 := (x 1).isLt
  have b3 : (x 3).val < 128 := (x 3).isLt
  refine (shapeCast_apply (s := S8x128) (t := S1x1x8x128) _ _ x (ix2 (x 2) (x 3))
    (by rw [Shape.rowMajor_val_four, Shape.rowMajor_val_two]; simp [ix2]; omega)).trans ?_
  have same : ∀ (k k' : Fin k0_t1_loop.trips) (q q' : ℕ) (h : q + 128 ≤ 512) (h' : q' + 128 ≤ 512) (j j' : (Sh 8 128).Idx),
      k = k' → q = q' → j = j' → piece a X k q h j = piece a X k' q' h' j' := by
    rintro _ _ _ _ _ _ _ _ rfl rfl rfl
    rfl
  obtain ⟨u, rfl⟩ := ho
  refine same _ _ _ _ _ _ _ _ (Fin.ext h1.symm) (by omega) ?_
  funext e
  apply Fin.ext
  fin_cases e
  · exact h2.symm
  · show (x 3).val = (y 3).val % 128
    omega

theorem at_off {k : Fin k0_t1_loop.trips} {o : ℕ} {off : Fin 4 → ℕ} (hoff : off = ![0, k.val, 0, o])
    (inb : ∀ e, off e + S1x1x8x128.size e ≤ S1x4x8x512.size e) (h : o + 128 ≤ 512) (ho : 128 ∣ o) (x : S1x1x8x128.Idx) :
    shapeCast S1x1x8x128 (piece a X k o h) shapeCasts_S8x128_S1x1x8x128 x
      = held a X ((Rect.unit (s := S1x4x8x512) off S1x1x8x128.size inb).emb x) := by
  have b1 : (x 1).val < 1 := (x 1).isLt
  subst hoff
  refine held_eq k o h ho x _ ?_ ?_ ?_
  · show k.val + 1 * (x 1).val = _
    omega
  · show 0 + 1 * (x 2).val = _
    omega
  · show o + 1 * (x 3).val = _
    omega

end

variable (c : Dev nD) (i : grid0.Coords) (arg1 : Memref sig .tc .vmem S1x4x16x512 .f32) (harg1 : arg1.IsWhole)
  (arg2 : Memref sig .tc .vmem S1x4x8x512 .f32) (harg2 : arg2.IsWhole)

theorem trip_held (X : BufTy.Contents (Elt Ideal) arg1.view.ty) (k : Fin k0_t1_loop.trips) :
    ∀ p ∈ tripL_k0_t1 (F := Ideal) Variants.none c none i arg1 harg1 arg2 harg2 X k, ∀ x : p.1.shape.Idx,
      p.2 x = held arg1 X (p.1.emb x) := by
  unfold tripL_k0_t1 trip_k0_t1
  dsimp only
  simp only [List.forall_mem_cons]
  refine ⟨fun x => ?_, fun x => ?_, fun x => ?_, fun x => ?_, fun _ h => absurd h List.not_mem_nil⟩
  · exact (congrFun stored_3 x).trans (at_off (k0_off5_eq k) (k0_off5_inb k) (by decide) (by decide) x)
  · exact (congrFun stored_2 x).trans (at_off (k0_off4_eq k) (k0_off4_inb k) (by decide) (by decide) x)
  · exact (congrFun stored_1 x).trans (at_off (k0_off3_eq k) (k0_off3_inb k) (by decide) (by decide) x)
  · exact (congrFun stored_0 x).trans (at_off (k0_off2_eq k) (k0_off2_inb k) (by decide) (by decide) x)

theorem trips_held (X : BufTy.Contents (Elt Ideal) arg1.view.ty) : ∀ n, n ≤ k0_t1_loop.trips →
    ∀ p ∈ pb_k0_t1 (F := Ideal) Variants.none c none i arg1 harg1 arg2 harg2 X n, ∀ x : p.1.shape.Idx,
      p.2 x = held arg1 X (p.1.emb x)
  | 0, _, p, hp => absurd hp List.not_mem_nil
  | n + 1, hn, p, hp => by
    rw [pb_k0_t1_succ Variants.none c none i arg1 harg1 arg2 harg2 X ⟨n, hn⟩] at hp
    rcases List.mem_append.mp hp with hp | hp
    · exact trip_held c i arg1 harg1 arg2 harg2 X _ p hp
    · exact trips_held X n (by omega) p hp

/-- A grid point's block, at a column whose window lies inside the array. -/
theorem out_apply (x0 : Vec Ideal S1x4x16x512 .f32) (y : S1x4x8x512.Idx) (hy : (y 3).val + 15 < 512) :
    out0_A_1 (F := Ideal) c i arg1 harg1 arg2 harg2 x0 y = stat (chan x0 (y 1).val) (y 3).val (y 2).val := by
  have hall : ∀ p ∈ (kernelRun0_A (F := Ideal) c i arg1 harg1 arg2 harg2 x0).1, ∀ x : p.1.shape.Idx,
      p.2 x = held arg1 (harg1.unread x0) (p.1.emb x) :=
    trips_held c i arg1 harg1 arg2 harg2 (harg1.unread x0) k0_t1_loop.trips le_rfl
  refine (View.read_writes_apply_of_pieces (Val := Elt Ideal) VO0_1 VO0_1.junk (held arg1 (harg1.unread x0)) _ hall y
    (cover0_A_1 c i arg1 harg1 arg2 harg2 x0 y)).trans ?_
  unfold held
  have hq : 128 * ((y 3).val / 128) + (y 3).val % 128 = (y 3).val := Nat.div_add_mod _ _
  have h := piece_rep (a := arg1) (X := harg1.unread x0) ⟨(y 1).val, (y 1).isLt⟩ (128 * ((y 3).val / 128))
    (by omega) (chan x0 (y 1).val) (load_rep harg1 x0 _) ((y 3).val % 128) (by omega)
  exact (h (ix2 (y 2) ⟨(y 3).val % 128, Nat.mod_lt _ (by decide)⟩) rfl).trans
    (by rw [hq]; rfl)

end Cert.Proof.Block
-- ==== Proof.Whole.lean ====
/- What the kernel's program leaves in its result: the eight statistics of every window of every channel. -/
module

public import proofs.«01_k».proof.Proof.Block
public import Idealize.ShloMosaic.Lib.Pipeline.ValueKit
public import Idealize.ShloMosaic.Lib.Claim

@[expose] public section

noncomputable section

set_option maxRecDepth 16384

namespace Cert.Proof.Whole

open Idealize.ShloMosaic Idealize.ShloMosaic.TcCoe Idealize.SL.Sem Cert.Proof.Block Cert.KernelIdeal Cert.KernelIdeal.Gen

/-- The values of channel `f` of batch `n`, by column and row. -/
def chanOf (x : FVec Ideal S64x8192x4 .f32) (n f c r : ℕ) : EReal :=
  if h : n < 64 ∧ f < 4 ∧ r < 16 ∧ c < 512 then x (ix3 ⟨n, h.1⟩ ⟨16 * c + r, by omega⟩ ⟨f, h.2.1⟩) else 0

/-- The argument as the kernel is handed it. -/
def moved (x : FVec Ideal S64x8192x4 .f32) : FVec Ideal S64x4x16x512 .f32 :=
  transpose S64x4x16x512 [0, 3, 2, 1] (shapeCast S64x512x16x4 (pad S64x8192x4 ![0, 0, 0] ![0, 0, 0] ![0, 0, 0]
    x (sitofp (F := Ideal) .f32 (constantI S_ 32 0#32)) pads_S64x8192x4_S64x8192x4_000_000_000 h_S_)
    shapeCasts_S64x8192x4_S64x512x16x4) transposes_S64x512x16x4_S64x4x16x512_0_3_2_1

theorem moved_apply (x : FVec Ideal S64x8192x4 .f32) (y : S64x4x16x512.Idx) :
    moved x y = chanOf x (y 0).val (y 1).val (y 3).val (y 2).val := by
  have h0 : (y 0).val < 64 := (y 0).isLt
  have h1 : (y 1).val < 4 := (y 1).isLt
  have h2 : (y 2).val < 16 := (y 2).isLt
  have h3 : (y 3).val < 512 := (y 3).isLt
  unfold chanOf
  rw [dif_pos ⟨h0, h1, h2, h3⟩]
  idx_vars y
  pointwise [moved]
  rw [dif_pos (by omega)]
  congr 1
  congr 1
  exact Fin.ext (by show y3.val * 16 + y2.val = 16 * y3.val + y2.val; omega)

variable (m : (ℓ : Loc nD τ sig) → Buf (Elt Ideal) ℓ)

theorem entry (c : Dev nD) (y : S64x4x16x512.Idx) : V m c main_v2 y = chanOf (m ((c : Thread nD τ).loc main_arg0)) (y 0).val (y 1).val (y 3).val (y 2).val := by
  have h : V m c main_v2 = moved (m ((c : Thread nD τ).loc main_arg0)) := by
    show StableHlo.after (hostOps0 ++ (hostOps0_1 ++ (hostOps0_2 ++ []))) _ _ = _
    simp only [List.cons_append, List.nil_append]
    after_results
    try rfl
  rw [h, moved_apply]

theorem idx : ∀ t : Fin cfg0.N, win0_0.index t = ![t.val, 0, 0, 0] ∧ win0_1.index t = ![t.val, 0, 0, 0] :=
  (by decide +kernel : ∀ t : Fin grid0.N, _)

theorem final (c : Dev nD) (y : S64x4x8x512.Idx) : (y 3).val + 15 < 512 → (dats m 0 c).arrAt 1 (cfgs 0).N y =
    stat (chanOf (m ((c : Thread nD τ).loc main_arg0)) (y 0).val (y 1).val) (y 3).val (y 2).val := by
  refine (dats m 0 c).arrAt_forall_of_covers 1 (fun (y : S64x4x8x512.Idx) v => (y 3).val + 15 < 512 → v = stat (chanOf (m ((c : Thread nD τ).loc main_arg0)) (y 0).val (y 1).val) (y 3).val (y 2).val) (by decide +kernel) (fun t hf j => ?_) y
  blk_simp
  rw [after0_1, (idx t).2]
  intro hj
  unfold outsAt0
  refine (out_apply c _ _ _ _ _ _ j ?_).trans ?_
  · simpa using hj
  · have e : chan (iblk m c 0 t) (j 1).val = chanOf (m ((c : Thread nD τ).loc main_arg0)) t.val (j 1).val := by
      funext col r
      have ht : t.val < 64 := t.isLt
      have h1 : (j 1).val < 4 := (j 1).isLt
      unfold chan
      split
      next h =>
        show V m c main_v2 (((cfg0.win 0).blk t).view.emb (ix4 (0 : Fin 1) (⟨(j 1).val, h.1⟩ : Fin 4) (⟨r, h.2.1⟩ : Fin 16)
          (⟨col, h.2.2⟩ : Fin 512))) = _
        rw [entry]
        blk_simp [(idx t).1]
        simp
      next h =>
        unfold chanOf
        rw [dif_neg fun h' => h h'.2]
    rw [e]
    simp

/-- What the program computes: statistic `b` of channel `f` at column `c` stands at place `8 f + b`. -/
def result (x : FVec Ideal S64x8192x4 .f32) (j : S64x497x32.Idx) : EReal :=
  stat (chanOf x (j 0).val ((j 2).val / 8)) (j 1).val ((j 2).val % 8)

/-- The host's rearrangement of the kernel's array. -/
def tail (A : FVec Ideal S64x4x8x512 .f32) : FVec Ideal S64x497x32 .f32 :=
  extractStridedSlice S64x497x32 ![0, 0, 0] (shapeCast S64x512x32 (transpose S64x512x4x8 [0, 3, 1, 2] A
    transposes_S64x4x8x512_S64x512x4x8_0_3_1_2) shapeCasts_S64x512x4x8_S64x512x32) slices_S64x512x32_S64x497x32_0_0_0

theorem tail_apply (A : FVec Ideal S64x4x8x512 .f32) (j : S64x497x32.Idx) :
    tail A j = A (ix4 (j 0) (⟨(j 2).val / 8, by have : (j 2).val < 32 := (j 2).isLt; omega⟩ : Fin 4) (⟨(j 2).val % 8, by omega⟩ : Fin 8)
      (⟨(j 1).val, by have : (j 1).val < 497 := (j 1).isLt; omega⟩ : Fin 512)) := by
  idx_vars j
  pointwise [tail]

theorem tail_final (c : Dev nD) : tail ((dats m 0 c).arrAt 1 (cfgs 0).N) = result (m ((c : Thread nD τ).loc main_arg0)) := by
  funext j
  have h1 : (j 1).val < 497 := (j 1).isLt
  exact (tail_apply _ j).trans (final m c _ (by show (j 1).val + 15 < 512; omega))

theorem run (g) : θ_run defs (onTc (τ := τ) (main (F := Ideal))) ⟨m, fun _ => 0, g⟩ (fun r => ∀ c : Dev nD,
      r.2.mem ((c.tc : Thread nD τ).loc main_v6) = result (m ((c : Thread nD τ).loc main_arg0))
      ∧ r.2.mem ((c.tc : Thread nD τ).loc main_arg0) = m ((c.tc : Thread nD τ).loc main_arg0)) := by
  refine (θ_run defs _ _).mono (fun r h c => ⟨?_, h.1 c⟩) (θ_run_and (unchanged m g) (run_main m g))
  refine ((h.2 c).2 main_v6 (by decide)).trans ?_
  unfold Pipeline.afterTail₀
  show StableHlo.after hostOps1 _ _ = _
  after_results
  exact (congrArg tail (Pipeline.withArrays_arr (cfgs 0).spec launch0.win.arr_inj c (V0 m c)
    (fun w => (dats m 0 c).arrAt w (cfgs 0).N) 1)).trans (tail_final m c)

end Cert.Proof.Whole
-- ==== Proof.Ref.lean ====
/- The reference in stages: the windows gathered out of the argument, the statistics of a window, and the eight statistics
   set side by side. -/
module

public import proofs.«01_k».proof.Proof.Gen.ReferenceIdeal.Run
public import Idealize.ShloMosaic.Lib.Pipeline.ValueKit
public import Idealize.ShloMosaic.Lib.Claim
public import Idealize.ShloMosaic.PureOps.Ideal

@[expose] public section

noncomputable section

set_option maxRecDepth 16384

namespace Cert.Proof.Ref

open Idealize.ShloMosaic Idealize.ShloMosaic.TcCoe Idealize.SL.Sem Cert.ReferenceIdeal Cert.ReferenceIdeal.Gen

/-- The windows' values. -/
abbrev Win : Type := FVec Ideal S64x497x256x4 .f32

/-- One number per window and channel. -/
abbrev Col : Type := FVec Ideal S64x497x4 .f32

/-- The place of each window's each value. -/
def place : IVec S497x256 32 :=
  addi (broadcastInDim S497x256 ![0, 1] bcast_S497x1_S497x256_0_1 (broadcastInDim S497x1 ![0] bcast_S497_S497x1_0
      (muli (iotaInDim S497 32 0) (broadcastInDim S497 ![] bcast_S_S497 (constantI S_ 32 16#32)))))
    (broadcastInDim S497x256 ![0, 1] bcast_S1x256_S497x256_0_1 (broadcastInDim S1x256 ![1] bcast_S256_S1x256_1 (iotaInDim S256 32 0)))

/-- The windows gathered. -/
def win (x : FVec Ideal S64x8192x4 .f32) : Win :=
  Host.gather gather_S64x8192x4_S497x256x1_S64x497x256x4_03_1_n_n_1_2_6414 x
    (broadcastInDim S497x256x1 ![0, 1] bcast_S497x256_S497x256x1_0_1
      (select (cmpi .slt place (broadcastInDim S497x256 ![] bcast_S_S497x256 (constantI S_ 32 0#32)))
        (addi place (broadcastInDim S497x256 ![] bcast_S_S497x256 (constantI S_ 32 8192#32))) place))

/-- A float constant. -/
abbrev cst (b : BitVec 32) : FVec Ideal S_ .f32 := constant S_ .f32 b

/-- The sum of a window. -/
def total (w : Win) : Col := Host.reduceAdd w (cst 0x00000000#32) reducesTo_S64x497x256x4_S64x497x4_d2 h_S_

def mean (w : Win) : Col := Host.divf (total w) (broadcastInDim S64x497x4 ![] bcast_S_S64x497x4 (cst 0x43800000#32))

/-- A number per window, given to each of the window's values. -/
def spread (x : FVec Ideal S64x497x1x4 .f32) : Win :=
  broadcastInDim S64x497x256x4 ![0, 1, 2, 3] bcast_S64x497x1x4_S64x497x256x4_0_1_2_3 x

def lift (x : Col) : FVec Ideal S64x497x1x4 .f32 := broadcastInDim S64x497x1x4 ![0, 1, 3] bcast_S64x497x4_S64x497x1x4_0_1_3 x

/-- The values less their window's mean. -/
def centred (w : Win) : Win :=
  subf w (spread (Host.divf (lift (total w)) (broadcastInDim S64x497x1x4 ![] bcast_S_S64x497x1x4 (cst 0x43800000#32))))

/-- The number of values a mean square is taken over. -/
def count : FVec Ideal S_ .f32 := subf (cst 0x43800000#32) (sitofp (F := Ideal) .f32 (constantI S_ 32 0#32))

def std (w : Win) : Col :=
  Host.sqrt (select (broadcastInDim S64x497x4 ![] bcast_S_S64x497x4 (cmpf .ogt count (cst 0x00000000#32)))
    (Host.divf (total (mulf (centred w) (centred w))) (broadcastInDim S64x497x4 ![] bcast_S_S64x497x4 count))
    (broadcastInDim S64x497x4 ![] bcast_S_S64x497x4 (id (cst 0x7FC00000#32))))

def least (w : Win) : Col :=
  Host.reduce FloatOps.minimumf w (cst 0x7F800000#32) reducesTo_S64x497x256x4_S64x497x4_d2 h_S_

def greatest (w : Win) : Col :=
  Host.reduce FloatOps.maximumf w (cst 0xFF800000#32) reducesTo_S64x497x256x4_S64x497x4_d2 h_S_

/-- A window's values in order. -/
def ordered (w : Win) : Win :=
  Host.sort S64x497x256x4 2 comparator_f32_d2
    (select (broadcastInDim S64x497x256x4 ![0, 1, 2, 3] bcast_S64x497x1x4_S64x497x256x4_0_1_2_3
        (broadcastInDim S64x497x1x4 ![0, 1, 3] bcast_S64x497x4_S64x497x1x4_0_1_3
          (Host.reduce IntOp.ori (cmpf .une w w) (constantI S_ 1 0#1) reducesTo_S64x497x256x4_S64x497x4_d2 h_S_)))
      (broadcastInDim S64x497x256x4 ![] bcast_S_S64x497x256x4 (id (cst 0x7FC00000#32))) w)

/-- The greatest rank, as a number. -/
def last : FVec Ideal S_ .f32 := subf (cst 0x43800000#32) (cst 0x3F800000#32)

abbrev three (x : FVec Ideal S_ .f32) : FVec Ideal S3 .f32 := broadcastInDim S3 ![] bcast_S_S3 x

/-- The three ranks asked for. -/
def rank : FVec Ideal S3 .f32 := mulf (fun i => FloatOps.ofBits .f32 (lit0 (S3.rowMajor i))) (three last)

/-- The part of a rank past a whole number. -/
def part : FVec Ideal S3 .f32 := subf rank (Host.floor rank)

/-- A rank held between the least and the greatest. -/
def within (x : FVec Ideal S3 .f32) : FVec Ideal S3 .f32 := minimumf (maximumf x (three (cst 0x00000000#32))) (three last)

/-- The values at three ranks. -/
def taken (s : Win) (x : FVec Ideal S3 .f32) : FVec Ideal S3x64x497x4 .f32 :=
  Host.gather gather_S64x497x256x4_S3x1_S3x64x497x4_123_2_n_n_2_1_6449714 s
    (broadcastInDim S3x1 ![0] bcast_S3_S3x1_0 (fptosi 32 (within x)))

/-- A weight per rank. -/
def weight (x : FVec Ideal S3 .f32) : FVec Ideal S3x64x497x4 .f32 := broadcastInDim S3x64x497x4 ![0] bcast_S3_S3x64x497x4_0 x

def quantiles (s : Win) : FVec Ideal S3x64x497x4 .f32 :=
  addf (mulf (taken s (Host.floor rank)) (weight (subf (three (cst 0x3F800000#32)) part)))
    (mulf (taken s (Host.ceil rank)) (weight part))

def first (q : FVec Ideal S3x64x497x4 .f32) : Col :=
  shapeCast S64x497x4 (extractStridedSlice S1x64x497x4 ![0, 0, 0, 0] q slices_S3x64x497x4_S1x64x497x4_0_0_0_0) shapeCasts_S1x64x497x4_S64x497x4
def second (q : FVec Ideal S3x64x497x4 .f32) : Col :=
  shapeCast S64x497x4 (extractStridedSlice S1x64x497x4 ![1, 0, 0, 0] q slices_S3x64x497x4_S1x64x497x4_1_0_0_0) shapeCasts_S1x64x497x4_S64x497x4
def third (q : FVec Ideal S3x64x497x4 .f32) : Col :=
  shapeCast S64x497x4 (extractStridedSlice S1x64x497x4 ![2, 0, 0, 0] q slices_S3x64x497x4_S1x64x497x4_2_0_0_0) shapeCasts_S1x64x497x4_S64x497x4

/-- How many of a window's values stand in a relation to the window's mean. -/
def tally (p : CmpFPredicate) (w : Win) : Col :=
  sitofp .f32 (Host.reduce IntOp.addi (extui 32 (cmpf p w (spread (lift (mean w)))) natLt_1_32) (constantI S_ 32 0#32)
    reducesTo_S64x497x256x4_S64x497x4_d2 h_S_)

abbrev plate (x : Col) : FVec Ideal S64x497x4x1 .f32 := broadcastInDim S64x497x4x1 ![0, 1, 2] bcast_S64x497x4_S64x497x4x1_0_1_2 x

/-- Eight statistics set side by side. -/
def stacked (a b c d e f g h : Col) : FVec Ideal S64x497x32 .f32 :=
  shapeCast S64x497x32 (Value.fn_main_v50 (F := Ideal) (plate a) (plate b) (plate c) (plate d) (plate e) (plate f) (plate g) (plate h))
    shapeCasts_S64x497x4x8_S64x497x32

def whole (w : Win) : FVec Ideal S64x497x32 .f32 :=
  stacked (mean w) (std w) (least w) (greatest w) (second (quantiles (ordered w)))
    (subf (third (quantiles (ordered w))) (first (quantiles (ordered w)))) (tally .ogt w) (tally .olt w)

theorem res_eq (m : (ℓ : Loc nD τ sig) → Buf (Elt Ideal) ℓ) (c : Dev nD) :
    Value.res_main_v51 m c = whole (win (m ((c : Thread nD τ).loc main_arg0))) := rfl

end Cert.Proof.Ref
-- ==== Proof.RefAt.lean ====
/- The reference's stages at an index. -/
module

public import proofs.«01_k».proof.Proof.Ref
public import proofs.«01_k».proof.Proof.Sort
public import Idealize.ShloMosaic.Lib.SortFacts

@[expose] public section

noncomputable section

set_option maxRecDepth 16384

namespace Cert.Proof.Ref

open Idealize.ShloMosaic Idealize.ShloMosaic.TcCoe Idealize.SL.Sem Cert.ReferenceIdeal Cert.ReferenceIdeal.Gen

section Windows

variable (n : Fin 64) (k : Fin 497) (f : Fin 4)

theorem toInt_small {v : ℕ} (h : v < 8192) : (BitVec.ofNat 32 v).toInt = v := by
  rw [BitVec.toInt_ofNat', Int.bmod_eq_of_le (by omega) (by omega)]

/-- How the windows' values are gathered from the argument. -/
abbrev windowDims : GatherDims S64x8192x4 S497x256x1 S64x497x256x4 := gather_S64x8192x4_S497x256x1_S64x497x256x4_03_1_n_n_1_2_6414

/-- How the values at the three ranks are gathered from the windows in order. -/
abbrev rankDims : GatherDims S64x497x256x4 S3x1 S3x64x497x4 := gather_S64x497x256x4_S3x1_S3x64x497x4_123_2_n_n_2_1_6449714

theorem place_apply (r : Fin 256) : place (ix2 k r) = BitVec.ofNat 32 (16 * k.val + r.val) := by
  pointwise [place]
  apply BitVec.eq_of_toNat_eq
  simp only [IntOp.addi, IntOp.muli, BitVec.toNat_add, BitVec.toNat_mul, BitVec.toNat_ofNat]
  omega

/-- The start each window's value is gathered from. -/
def start : IVec S497x256x1 32 :=
  broadcastInDim S497x256x1 ![0, 1] bcast_S497x256_S497x256x1_0_1
    (select (cmpi .slt place (broadcastInDim S497x256 ![] bcast_S_S497x256 (constantI S_ 32 0#32)))
      (addi place (broadcastInDim S497x256 ![] bcast_S_S497x256 (constantI S_ 32 8192#32))) place)

theorem start_apply (r : Fin 256) : (start (ix3 k r (0 : Fin 1))).toInt.toNat = 16 * k.val + r.val := by
  have h : start (ix3 k r (0 : Fin 1)) = BitVec.ofNat 32 (16 * k.val + r.val) := by
    pointwise [start, place_apply]
    have hn : IntOp.cmpi .slt (BitVec.ofNat 32 (16 * k.val + r.val)) 0#32 = 0#1 := by
      show BitVec.ofBool (BitVec.slt _ _) = _
      rw [BitVec.slt_eq_decide, toInt_small (by omega)]
      have : ¬ (((16 * k.val + r.val : ℕ) : ℤ) < BitVec.toInt 0#32) := by
        rw [BitVec.toInt_zero]
        omega
      rw [decide_eq_false this]
      rfl
    rw [hn]
    rfl
  rw [h, toInt_small (by omega)]
  omega

/-- A value of a window is the array's value at the window's start and the value's place in it. -/
theorem win_apply (x : FVec Ideal S64x8192x4 .f32) (r : Fin 256) :
    win x (ix4 n k r f) = x (ix3 n (⟨16 * k.val + r.val, by omega⟩ : Fin 8192) f) := by
  show Host.gather windowDims x start _ = _
  unfold Host.gather
  congr 1
  funext a
  refine Fin.ext ?_
  show GatherDims.start windowDims (ix4 n k r f) start a
      + GatherDims.batchCoord windowDims (ix4 n k r f) a
      + GatherDims.offCoord windowDims (ix4 n k r f) a = _
  rw [GatherDims.batchCoord_eq_zero _ _ _ List.not_mem_nil]
  have ha : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases ha with rfl | rfl | rfl
  · unfold GatherDims.start GatherDims.offCoord
    rw [dif_neg (by decide), dif_pos (by decide), Nat.zero_add]
    rfl
  · rw [GatherDims.offCoord_eq_zero _ _ _ (fun h => ((GatherDims.mem_sKept _ _).mp h).1 (List.mem_singleton.mpr rfl))]
    unfold GatherDims.start
    rw [dif_pos (by decide)]
    have hsi : GatherDims.siIdx windowDims (ix4 n k r f)
        ⟨List.idxOf (1 : Fin 3) windowDims.startIndexMap,
          List.idxOf_lt_length_iff.2 (List.mem_singleton.mpr rfl)⟩ = ix3 k r (0 : Fin 1) := by
      funext b
      refine Fin.ext ?_
      match b with
      | ⟨0, _⟩ => rfl
      | ⟨1, _⟩ => rfl
      | ⟨2, _⟩ => rfl
    show min (start (GatherDims.siIdx _ _ ⟨List.idxOf (1 : Fin 3) _, _⟩)).toInt.toNat (8192 - 1) + 0 + 0 = 16 * k.val + r.val
    rw [hsi, start_apply]
    omega
  · unfold GatherDims.start GatherDims.offCoord
    rw [dif_neg (by decide), dif_pos (by decide), Nat.zero_add]
    rfl

/-- The rows the three ranks name. -/
theorem taken_apply (s : Win) (x : FVec Ideal S3 .f32) (q : Fin 3) (v : ℕ) (hv : v < 256)
    (h : fptosi 32 (within x) (ix1 q) = BitVec.ofNat 32 v) : taken s x (ix4 q n k f) = s (ix4 n k (⟨v, hv⟩ : Fin 256) f) := by
  unfold taken
  generalize hi : broadcastInDim S3x1 ![0] bcast_S3_S3x1_0 (fptosi 32 (within x)) = idx
  have hq : idx (ix2 q (0 : Fin 1)) = BitVec.ofNat 32 v := by
    rw [← hi, ← h]
    pointwise
  unfold Host.gather
  congr 1
  funext a
  refine Fin.ext ?_
  show GatherDims.start rankDims (ix4 q n k f) idx a
      + GatherDims.batchCoord rankDims (ix4 q n k f) a
      + GatherDims.offCoord rankDims (ix4 q n k f) a = _
  rw [GatherDims.batchCoord_eq_zero _ _ _ List.not_mem_nil]
  have ha : a = (0 : Fin 4) ∨ a = (1 : Fin 4) ∨ a = (2 : Fin 4) ∨ a = (3 : Fin 4) := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases ha with rfl | rfl | rfl | rfl
  · unfold GatherDims.start GatherDims.offCoord
    rw [dif_neg (by decide), dif_pos (by decide), Nat.zero_add]
    rfl
  · unfold GatherDims.start GatherDims.offCoord
    rw [dif_neg (by decide), dif_pos (by decide), Nat.zero_add]
    rfl
  · rw [GatherDims.offCoord_eq_zero _ _ _ (fun h => ((GatherDims.mem_sKept _ _).mp h).1 (List.mem_singleton.mpr rfl))]
    unfold GatherDims.start
    rw [dif_pos (by decide)]
    have hsi : GatherDims.siIdx rankDims (ix4 q n k f)
        ⟨List.idxOf (2 : Fin 4) rankDims.startIndexMap,
          List.idxOf_lt_length_iff.2 (List.mem_singleton.mpr rfl)⟩ = ix2 q (0 : Fin 1) := by
      funext b
      refine Fin.ext ?_
      match b with
      | ⟨0, _⟩ => rfl
      | ⟨1, _⟩ => rfl
    show min (idx (GatherDims.siIdx _ _ ⟨List.idxOf (2 : Fin 4) _, _⟩)).toInt.toNat (256 - 1) + 0 + 0 = v
    rw [hsi, hq, toInt_small (by omega)]
    omega
  · unfold GatherDims.start GatherDims.offCoord
    rw [dif_neg (by decide), dif_pos (by decide), Nat.zero_add]
    rfl

end Windows

end Cert.Proof.Ref
-- ==== Proof.Order.lean ====
/- The reference's windows in order: each window's values rearranged from the least to the greatest. -/
module

public import proofs.«01_k».proof.Proof.RefAt

@[expose] public section

noncomputable section

set_option maxRecDepth 16384

namespace Cert.Proof.Ref

open Idealize.ShloMosaic Cert.Proof.Sort Cert.ReferenceIdeal Cert.ReferenceIdeal.Gen

/-- A window's values, by their place in it. -/
def fiber (w : Win) (n : Fin 64) (k : Fin 497) (f : Fin 4) (r : ℕ) : EReal := if h : r < 256 then w (ix4 n k ⟨r, h⟩ f) else 0

theorem fiber_val (w : Win) (n : Fin 64) (k : Fin 497) (f : Fin 4) (r : Fin 256) : fiber w n k f r.val = w (ix4 n k r f) :=
  dif_pos r.isLt

/-- The first values of a sequence as a family over a finite index. -/
theorem vals_fin {α : Type} (n : ℕ) (x : ℕ → α) : vals n x = (Finset.univ : Finset (Fin n)).val.map fun r => x r.val := by
  rw [Fin.univ_val_map]
  show ((List.range n).map x : Multiset α) = _
  congr 1
  apply List.ext_getElem <;> simp

/-- The reference's order of two values is the order of the extended reals. -/
theorem before_eq (l r : EReal) : comparator_f32_d2 (F := Ideal) l r = BitVec.ofBool (decide (l < r)) := by
  have hz : ∀ x : EReal, Scalar.select (FloatOps.cmpf (F := Ideal) (φ := .f32) .oeq x (FloatOps.ofBits (F := Ideal) .f32 0x00000000#32))
      (FloatOps.ofBits (F := Ideal) .f32 0x00000000#32) x = x := fun x => by
    by_cases h : x = FloatOps.ofBits (F := Ideal) .f32 0x00000000#32
    · rw [← h]; unfold Scalar.select; split <;> rfl
    · have : FloatOps.cmpf (F := Ideal) (φ := .f32) .oeq x (FloatOps.ofBits (F := Ideal) .f32 0x00000000#32) = 0#1 := by
        show BitVec.ofBool (decide (x = _)) = 0#1
        rw [decide_eq_false h]; rfl
      rw [this]; rfl
  have hn : ∀ x y z : EReal, Scalar.select (FloatOps.cmpf (F := Ideal) (φ := .f32) .une x x) y z = z := fun x y z => by
    have : FloatOps.cmpf (F := Ideal) (φ := .f32) .une x x = 0#1 := by
      show BitVec.ofBool (decide (x ≠ x)) = 0#1
      rw [decide_eq_false (by simp)]; rfl
    rw [this]; rfl
  show FloatOps.cmpfTotal (F := Ideal) (φ := .f32) .lt (Scalar.select _ _ (Scalar.select _ _ l)) (Scalar.select _ _ (Scalar.select _ _ r)) = _
  rw [hn, hn, hz, hz]
  rfl

/-- No value of a window is unordered, so the reference sorts the window itself. -/
theorem ordered_eq (w : Win) : ordered w = Host.sort S64x497x256x4 2 comparator_f32_d2 w := by
  have h0 : cmpf .une w w = fun _ => 0#1 := by
    funext j
    show BitVec.ofBool (decide (w j ≠ w j)) = 0#1
    rw [decide_eq_false (by simp)]; rfl
  have hr : Host.reduce IntOp.ori (cmpf .une w w) (constantI S_ 1 0#1) reducesTo_S64x497x256x4_S64x497x4_d2 h_S_
      = fun _ => 0#1 := by
    funext j
    rw [h0, Host.reduce_eq_fold_single IntOp.ori _ _ reducesTo_S64x497x256x4_S64x497x4_d2 (by decide) h_S_]
    generalize (Finset.univ : Finset (Fin _)) = s
    induction s using Finset.induction_on with
    | empty => rfl
    | insert a s ha ih =>
      rw [Finset.fold_insert ha, ih]
      show IntOp.ori 0#1 0#1 = 0#1
      decide
  unfold ordered
  rw [hr]
  refine congrArg (Host.sort S64x497x256x4 2 comparator_f32_d2) ?_
  funext j
  rfl

/-- The place in the window of each of the values in order. -/
def source (w : Win) (n : Fin 64) (k : Fin 497) (f : Fin 4) : Fin 256 → Fin 256 :=
  sortedFrom fun i i' => comparator_f32_d2 (F := Ideal) (w (ix4 n k i f)) (w (ix4 n k i' f)) == 1#1

theorem along_eq (n : Fin 64) (k : Fin 497) (f : Fin 4) (r r' : Fin 256) :
    Shape.Idx.along (s := S64x497x256x4) (ix4 n k r f) 2 r' = ix4 n k r' f := by
  funext a
  match a with
  | ⟨0, _⟩ => rfl
  | ⟨1, _⟩ => rfl
  | ⟨2, _⟩ => rfl
  | ⟨3, _⟩ => rfl

theorem ordered_apply (w : Win) (n : Fin 64) (k : Fin 497) (f : Fin 4) (r : Fin 256) :
    ordered w (ix4 n k r f) = w (ix4 n k (source w n k f r) f) := by
  rw [ordered_eq]
  unfold Host.sort
  rw [dif_pos (show 2 < S64x497x256x4.rank by decide)]
  refine (congrArg w (along_eq n k f r _)).trans ?_
  refine congrArg (fun g : Fin 256 → Fin 256 → Bool => w (ix4 n k (sortedFrom g r) f)) ?_
  funext i i'
  exact congrArg₂ (fun a b => comparator_f32_d2 (F := Ideal) (w a) (w b) == 1#1) (along_eq n k f r i) (along_eq n k f r i')

/-- The window in order is in order. -/
theorem ordered_mono (w : Win) (n : Fin 64) (k : Fin 497) (f : Fin 4) (i i' : ℕ) (hi : i ≤ i') (h' : i' < 256) :
    fiber (ordered w) n k f i ≤ fiber (ordered w) n k f i' := by
  rcases hi.eq_or_lt with rfl | hlt
  · exact le_rfl
  refine ((fiber_val (ordered w) n k f ⟨i, by omega⟩).trans (ordered_apply w n k f _)).le.trans
    (le_trans ?_ ((fiber_val (ordered w) n k f ⟨i', h'⟩).trans (ordered_apply w n k f _)).ge)
  have hb : ∀ a b : Fin 256, ((comparator_f32_d2 (F := Ideal) (w (ix4 n k a f)) (w (ix4 n k b f)) == 1#1) = true)
      ↔ w (ix4 n k a f) < w (ix4 n k b f) := fun a b => by
    rw [before_eq]
    by_cases h : w (ix4 n k a f) < w (ix4 n k b f) <;> simp [h]
  have hf : ∀ a b : Fin 256, ((comparator_f32_d2 (F := Ideal) (w (ix4 n k a f)) (w (ix4 n k b f)) == 1#1) = false)
      ↔ w (ix4 n k b f) ≤ w (ix4 n k a f) := fun a b => by
    rw [← not_lt, ← hb a b, Bool.not_eq_true]
  have := sortedFrom_noInversion (fun i i' : Fin 256 => comparator_f32_d2 (F := Ideal) (w (ix4 n k i f)) (w (ix4 n k i' f)) == 1#1)
    (fun i i' : Fin 256 => comparator_f32_d2 (F := Ideal) (w (ix4 n k i f)) (w (ix4 n k i' f)) == 1#1)
    (fun a b h => (hf b a).2 ((hb a b).1 h).le) (fun a b h => h)
    (fun a b c h1 h2 => (hf a c).2 (((hf b c).1 h2).trans ((hf a b).1 h1)))
    (⟨i, by omega⟩ : Fin 256) (⟨i', h'⟩ : Fin 256) hlt
  exact (hf _ _).1 this

/-- The window in order has the window's values. -/
theorem ordered_vals (w : Win) (n : Fin 64) (k : Fin 497) (f : Fin 4) :
    vals 256 (fiber (ordered w) n k f) = vals 256 (fiber w n k f) := by
  rw [vals_fin, vals_fin]
  simp only [fiber_val, ordered_apply]
  have hs : Function.Bijective (source w n k f) := ⟨sortedFrom_injective _, sortedFrom_surjective _⟩
  generalize source w n k f = σ at hs ⊢
  have := congrArg (Multiset.map fun r => w (ix4 n k r f)) (Multiset.map_univ_val_equiv (Equiv.ofBijective σ hs))
  rw [Multiset.map_map] at this
  exact this

end Cert.Proof.Ref
-- ==== Proof.Window.lean ====
/- A window of the kernel's columns: its sums, its mean, its standard deviation and its values in order. -/
module

public import proofs.«01_k».proof.Proof.Block
public import Mathlib.Logic.Equiv.Fin.Basic
public import Mathlib.Tactic.FieldSimp

@[expose] public section

noncomputable section

namespace Cert.Proof.Window

open Idealize.ShloMosaic Cert.Proof.Sort Cert.Proof.Columns Cert.Proof.Tile Cert.Proof.Block

/-- The value at place `r` of the window at column `k`. -/
def at_ {α : Type} (D : ℕ → ℕ → α) (k r : ℕ) : α := D (k + r / 16) (r % 16)

section Sums

/-- The doubling sums add up sixteen columns. -/
theorem window_eq (t : ℕ → EReal) (k : ℕ) : window t k = ∑ i : Fin 16, t (k + i.val) := by
  simp only [window, dbl, Fin.sum_univ_succ, Fin.sum_univ_zero, add_assoc]
  simp

/-- A window's sum, column by column. -/
theorem sum_at {M : Type} [AddCommMonoid M] (D : ℕ → ℕ → M) (k : ℕ) :
    ∑ r : Fin 256, at_ D k r.val = ∑ i : Fin 16, ∑ j : Fin 16, D (k + i.val) j.val := by
  rw [← Fintype.sum_prod_type']
  refine (Fintype.sum_equiv (finProdFinEquiv (m := 16) (n := 16)) _ _ fun p => ?_).symm
  have h1 := p.1.isLt
  have h2 := p.2.isLt
  have e : (finProdFinEquiv p).val = p.2.val + 16 * p.1.val := rfl
  unfold at_
  rw [e, show (p.2.val + 16 * p.1.val) / 16 = p.1.val by omega, show (p.2.val + 16 * p.1.val) % 16 = p.2.val by omega]

theorem window_sum (D : ℕ → ℕ → EReal) (k : ℕ) : window (fun c => colSum (D c)) k = ∑ r : Fin 256, at_ D k r.val := by
  rw [window_eq, sum_at]
  rfl

theorem coe_sum {n : ℕ} (y : Fin n → ℝ) : ∑ r, ((y r : ℝ) : EReal) = ((∑ r, y r : ℝ) : EReal) := by
  induction n with
  | zero => simp
  | succ n ih => rw [Fin.sum_univ_succ, Fin.sum_univ_succ, ih, EReal.coe_add]

theorem ofBits_256 : Ideal.ofBits .f32 0x43800000#32 = ((256 : ℝ) : EReal) := by
  simp [Ideal.ofBits, Ideal.ieee, -EReal.coe_mul]; norm_num

theorem ofBits_256th : Ideal.ofBits .f32 0x3B800000#32 = ((1 / 256 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_quarter : Ideal.ofBits .f32 0x3E800000#32 = ((1 / 4 : ℝ) : EReal) := by
  simp [Ideal.ofBits, Ideal.ieee, -EReal.coe_mul]; norm_num

theorem ofBits_three_quarters : Ideal.ofBits .f32 0x3F400000#32 = ((3 / 4 : ℝ) : EReal) := by
  simp [Ideal.ofBits, Ideal.ieee, -EReal.coe_mul]; norm_num

theorem ofBits_top : Ideal.ofBits .f32 0x7F800000#32 = ⊤ := by simp [Ideal.ofBits, Ideal.ieee]

theorem ofBits_bot : Ideal.ofBits .f32 0xFF800000#32 = ⊥ := by simp [Ideal.ofBits, Ideal.ieee]

/-- The mean of 256 numbers. -/
def avg (y : Fin 256 → ℝ) : ℝ := (∑ r, y r) / 256

/-- The mean square of 256 numbers' distances from their mean. -/
def var (y : Fin 256 → ℝ) : ℝ := (∑ r, (y r - avg y) * (y r - avg y)) / 256

theorem var_nonneg (y : Fin 256 → ℝ) : 0 ≤ var y := div_nonneg (Finset.sum_nonneg fun _ _ => mul_self_nonneg _) (by norm_num)

/-- The mean square less the square of the mean is the mean square distance from the mean. -/
theorem var_eq (y : Fin 256 → ℝ) : avg (fun r => y r * y r) - avg y * avg y = var y := by
  have h : ∑ r, (y r - avg y) * (y r - avg y) = (∑ r, y r * y r) - 2 * avg y * (∑ r, y r) + 256 * (avg y * avg y) := by
    have : ∀ r, (y r - avg y) * (y r - avg y) = y r * y r - 2 * avg y * y r + avg y * avg y := fun r => by ring
    simp only [this, Finset.sum_add_distrib, Finset.sum_sub_distrib, ← Finset.mul_sum, Finset.sum_const, Finset.card_univ,
      Fintype.card_fin, nsmul_eq_mul]
    push_cast
    ring
  have hs : (∑ r, y r) = 256 * avg y := by unfold avg; field_simp
  unfold var
  rw [h, hs]
  unfold avg
  field_simp
  ring

variable {D : ℕ → ℕ → EReal} {d : ℕ → ℕ → ℝ} (hD : ∀ c r, D c r = ((d c r : ℝ) : EReal)) (k : ℕ)

include hD in
theorem mean_eq : meanOf (fun c => colSum (D c)) k = ((avg fun r => at_ d k r.val : ℝ) : EReal) := by
  unfold meanOf
  rw [window_sum]
  show _ * Ideal.ofBits .f32 0x3B800000#32 = _
  have : ∀ r : Fin 256, at_ D k r.val = ((at_ d k r.val : ℝ) : EReal) := fun r => hD _ _
  simp only [this]
  rw [coe_sum, ofBits_256th, ← EReal.coe_mul]
  unfold avg
  rw [mul_one_div]

include hD in
theorem std_eq : stdOf (fun c => colSum (D c)) (fun c => colSum fun r => D c r * D c r) k
    = ((Real.sqrt (var fun r => at_ d k r.val) : ℝ) : EReal) := by
  have h2 := mean_eq (D := fun c r => D c r * D c r) (d := fun c r => d c r * d c r)
    (fun c r => by rw [hD, EReal.coe_mul]) k
  unfold stdOf
  rw [h2, mean_eq hD]
  have e : (avg fun r => at_ (fun c r => d c r * d c r) k r.val) - (avg fun r => at_ d k r.val) * (avg fun r => at_ d k r.val)
      = var fun r => at_ d k r.val := var_eq fun r => at_ d k r.val
  rw [← EReal.coe_mul, ← EReal.coe_sub, e]
  show Ideal.sqrt (max _ (Ideal.ofBits .f32 0x00000000#32)) = _
  rw [Ideal.ofBits_zero_f32, max_eq_left (by exact_mod_cast var_nonneg _), Ideal.sqrt_coe, if_neg (not_lt.2 (var_nonneg _))]

end Sums

section Values

variable (D : ℕ → ℕ → EReal)

theorem vals_add {α : Type} (m n : ℕ) (x : ℕ → α) : vals (m + n) x = vals m x + vals n fun i => x (m + i) := by
  unfold vals
  rw [Multiset.range_add, Multiset.map_add, Multiset.map_map]
  rfl

theorem vals_at_add {α : Type} (D : ℕ → ℕ → α) (s k : ℕ) :
    vals (16 * s + 16 * s) (at_ D k) = vals (16 * s) (at_ D k) + vals (16 * s) (at_ D (k + s)) := by
  rw [vals_add]
  congr 2
  funext i
  unfold at_
  rw [show (16 * s + i) / 16 = s + i / 16 by omega, show (16 * s + i) % 16 = i % 16 by omega, add_assoc]

theorem vals_P16 (c : ℕ) : vals 16 (P16 D c) = vals 16 (at_ D c) := by
  unfold P16
  rw [vals_net16]
  refine vals_congr fun i hi => ?_
  unfold at_
  rw [show i / 16 = 0 by omega, show i % 16 = i by omega, add_zero]

theorem vals_P32 (c : ℕ) : vals 32 (P32 D c) = vals 32 (at_ D c) := by
  have := vals_merge 4 (P16 D c) (P16 D (c + 1))
  norm_num at this
  unfold P32
  rw [this, vals_P16, vals_P16]
  exact (vals_at_add D 1 c).symm

theorem vals_P64 (c : ℕ) : vals 64 (P64 D c) = vals 64 (at_ D c) := by
  have := vals_merge 5 (P32 D c) (P32 D (c + 2))
  norm_num at this
  unfold P64
  rw [this, vals_P32, vals_P32]
  exact (vals_at_add D 2 c).symm

theorem vals_P128 (c : ℕ) : vals 128 (P128 D c) = vals 128 (at_ D c) := by
  have := vals_merge 6 (P64 D c) (P64 D (c + 4))
  norm_num at this
  unfold P128
  rw [this, vals_P64, vals_P64]
  exact (vals_at_add D 4 c).symm

/-- The values of the two halves are the window's. -/
theorem vals_halves (c : ℕ) : vals 128 (P128 D c) + vals 128 (P128 D (c + 8)) = vals 256 (at_ D c) := by
  rw [vals_P128, vals_P128]
  exact (vals_at_add D 8 c).symm

theorem vals_bitonic (c : ℕ) : vals 256 (join 128 (P128 D c) (P128 D (c + 8))) = vals 256 (at_ D c) := by
  rw [← vals_halves]
  exact vals_join 128 _ _

theorem vals_sorted (c : ℕ) : vals 256 (merge 7 (P128 D c) (P128 D (c + 8))) = vals 256 (at_ D c) := by
  rw [← vals_halves]
  exact vals_merge 7 _ _

theorem sorted_P128 (c : ℕ) : Sorted 128 (P128 D c) := by
  have h16 : ∀ c, Sorted (2 ^ 4) (P16 D c) := fun c => sorted_net16 _
  have h32 : ∀ c, Sorted (2 ^ 5) (P32 D c) := fun c => sorted_merge 4 (h16 _) (h16 _)
  have h64 : ∀ c, Sorted (2 ^ 6) (P64 D c) := fun c => sorted_merge 5 (h32 _) (h32 _)
  exact sorted_merge 6 (h64 _) (h64 _)

theorem sorted_window (c : ℕ) : Sorted 256 (merge 7 (P128 D c) (P128 D (c + 8))) :=
  sorted_merge 7 (sorted_P128 D c) (sorted_P128 D (c + 8))

/-- The kernel's window in order is the only order of its values. -/
theorem sorted_unique (c : ℕ) {z : ℕ → EReal} (hz : ∀ i i', i ≤ i' → i' < 256 → z i ≤ z i') (hv : vals 256 z = vals 256 (at_ D c))
    {i : ℕ} (hi : i < 256) : merge 7 (P128 D c) (P128 D (c + 8)) i = z i :=
  eq_of_sorted (fun _ _ h h' => (sorted_window D c).mono h h') hz ((vals_sorted D c).trans hv.symm) hi

theorem mem_vals {α : Type} {n : ℕ} {x : ℕ → α} {a : α} : a ∈ vals n x ↔ ∃ i < n, x i = a := by
  unfold vals
  simp only [Multiset.mem_map, Multiset.mem_range]

theorem join_ends {α : Type} (p q : ℕ → α) : join 128 p q 0 = p 0 ∧ join 128 p q 127 = p 127 ∧ join 128 p q 128 = q 127
    ∧ join 128 p q 255 = q 0 :=
  ⟨if_pos (by norm_num), if_pos (by norm_num), if_neg (by norm_num), if_neg (by norm_num)⟩

/-- The least value of two sequences in order is the lesser of their first. -/
theorem least_of {p q x : ℕ → EReal} (hp : Sorted 128 p) (hq : Sorted 128 q) (h : vals 128 p + vals 128 q = vals 256 x) :
    p 0 ⊓ q 0 = (Finset.univ : Finset (Fin 256)).fold min ⊤ fun r => x r.val := by
  apply le_antisymm
  · rw [Finset.le_fold_min]
    refine ⟨le_top, fun r _ => ?_⟩
    have hr : x r.val ∈ vals 256 x := mem_vals.2 ⟨r.val, r.isLt, rfl⟩
    rw [← h, Multiset.mem_add, mem_vals, mem_vals] at hr
    rcases hr with ⟨i, hi, e⟩ | ⟨i, hi, e⟩
    · exact inf_le_left.trans ((hp.mono (Nat.zero_le i) hi).trans e.le)
    · exact inf_le_right.trans ((hq.mono (Nat.zero_le i) hi).trans e.le)
  · have hm : ∀ a ∈ vals 128 p + vals 128 q, (Finset.univ : Finset (Fin 256)).fold min ⊤ (fun r => x r.val) ≤ a := fun a ha => by
      rw [h, mem_vals] at ha
      obtain ⟨i, hi, rfl⟩ := ha
      exact Finset.fold_min_le _ |>.2 (Or.inr ⟨⟨i, hi⟩, Finset.mem_univ _, le_rfl⟩)
    exact le_inf (hm _ (Multiset.mem_add.2 (Or.inl (mem_vals.2 ⟨0, by norm_num, rfl⟩))))
      (hm _ (Multiset.mem_add.2 (Or.inr (mem_vals.2 ⟨0, by norm_num, rfl⟩))))

/-- The greatest value of two sequences in order is the greater of their last. -/
theorem greatest_of {p q x : ℕ → EReal} (hp : Sorted 128 p) (hq : Sorted 128 q) (h : vals 128 p + vals 128 q = vals 256 x) :
    p 127 ⊔ q 127 = (Finset.univ : Finset (Fin 256)).fold max ⊥ fun r => x r.val := by
  apply le_antisymm
  · have hm : ∀ a ∈ vals 128 p + vals 128 q, a ≤ (Finset.univ : Finset (Fin 256)).fold max ⊥ (fun r => x r.val) := fun a ha => by
      rw [h, mem_vals] at ha
      obtain ⟨i, hi, rfl⟩ := ha
      exact Finset.le_fold_max _ |>.2 (Or.inr ⟨⟨i, hi⟩, Finset.mem_univ _, le_rfl⟩)
    exact sup_le (hm _ (Multiset.mem_add.2 (Or.inl (mem_vals.2 ⟨127, by norm_num, rfl⟩))))
      (hm _ (Multiset.mem_add.2 (Or.inr (mem_vals.2 ⟨127, by norm_num, rfl⟩))))
  · rw [Finset.fold_max_le]
    refine ⟨bot_le, fun r _ => ?_⟩
    have hr : x r.val ∈ vals 256 x := mem_vals.2 ⟨r.val, r.isLt, rfl⟩
    rw [← h, Multiset.mem_add, mem_vals, mem_vals] at hr
    rcases hr with ⟨i, hi, e⟩ | ⟨i, hi, e⟩
    · exact e.ge.trans ((hp.mono (by omega) (by norm_num)).trans le_sup_left)
    · exact e.ge.trans ((hq.mono (by omega) (by norm_num)).trans le_sup_right)

/-- The least of a window is the lesser of its halves' first. -/
theorem least_eq (c : ℕ) : join 128 (P128 D c) (P128 D (c + 8)) 0 ⊓ join 128 (P128 D c) (P128 D (c + 8)) 255
    = (Finset.univ : Finset (Fin 256)).fold min ⊤ fun r => at_ D c r.val := by
  rw [(join_ends _ _).1, (join_ends _ _).2.2.2]
  exact least_of (sorted_P128 D c) (sorted_P128 D (c + 8)) (vals_halves D c)

/-- The greatest of a window is the greater of its halves' last. -/
theorem greatest_eq (c : ℕ) : join 128 (P128 D c) (P128 D (c + 8)) 127 ⊔ join 128 (P128 D c) (P128 D (c + 8)) 128
    = (Finset.univ : Finset (Fin 256)).fold max ⊥ fun r => at_ D c r.val := by
  rw [(join_ends _ _).2.1, (join_ends _ _).2.2.1]
  exact greatest_of (sorted_P128 D c) (sorted_P128 D (c + 8)) (vals_halves D c)

theorem sum_vals {M : Type} [AddCommMonoid M] (n : ℕ) (x : ℕ → EReal) (g : EReal → M) :
    ∑ r : Fin n, g (x r.val) = ((vals n x).map g).sum := by
  unfold vals
  rw [Multiset.map_map, Finset.sum_fin_eq_sum_range]
  show _ = ∑ i ∈ Finset.range n, (g ∘ x) i
  refine Finset.sum_congr rfl fun i hi => ?_
  rw [dif_pos (Finset.mem_range.1 hi)]
  rfl

/-- A sum over the bitonic window is the sum over the window. -/
theorem sum_bitonic {M : Type} [AddCommMonoid M] (c : ℕ) (g : EReal → M) :
    ∑ r : Fin 256, g (join 128 (P128 D c) (P128 D (c + 8)) r.val) = ∑ r : Fin 256, g (at_ D c r.val) := by
  rw [sum_vals, sum_vals, vals_bitonic]

end Values

end Cert.Proof.Window
-- ==== Proof.Stats.lean ====
/- The reference's statistics of a window at an index. -/
module

public import proofs.«01_k».proof.Proof.Order
public import proofs.«01_k».proof.Proof.Window

@[expose] public section

noncomputable section

set_option maxRecDepth 16384

namespace Cert.Proof.Ref

open Idealize.ShloMosaic Cert.Proof.Sort Cert.Proof.Window Cert.ReferenceIdeal Cert.ReferenceIdeal.Gen

section Sums

variable {w : Win} {n : Fin 64} {k : Fin 497} {f : Fin 4} {y : Fin 256 → ℝ} (hy : ∀ r, w (ix4 n k r f) = ((y r : ℝ) : EReal))

theorem div_256 (a : ℝ) : Ideal.div ((a : ℝ) : EReal) (Ideal.ofBits .f32 0x43800000#32) = ((a / 256 : ℝ) : EReal) := by
  rw [ofBits_256]
  unfold Ideal.div
  rw [if_neg (by norm_cast), ← EReal.coe_inv, ← EReal.coe_mul, div_eq_mul_inv]

include hy in
theorem mean_apply : mean w (ix3 n k f) = ((avg y : ℝ) : EReal) := by
  pointwise [mean, total, hy]
  rw [coe_sum, div_256]
  rfl

theorem count_apply : Ideal.ofBits .f32 0x43800000#32 - FloatOps.sitofp (F := Ideal) .f32 (0#32 : BitVec 32) = Ideal.ofBits .f32 0x43800000#32 := by
  show _ - (((0#32 : BitVec 32).toInt : ℝ) : EReal) = _
  simp

include hy in
theorem std_apply : std w (ix3 n k f) = ((Real.sqrt (var y) : ℝ) : EReal) := by
  pointwise [std, total, centred, spread, lift, count, hy]
  rw [count_apply, coe_sum, div_256, if_pos (by rw [ofBits_256]; norm_cast)]
  have : ∀ r, (((y r : ℝ) : EReal) - (((∑ r, y r) / 256 : ℝ) : EReal)) * (((y r : ℝ) : EReal) - (((∑ r, y r) / 256 : ℝ) : EReal))
      = (((y r - avg y) * (y r - avg y) : ℝ) : EReal) := fun r => by
    rw [← EReal.coe_sub, ← EReal.coe_mul]
    rfl
  simp only [this]
  rw [coe_sum, div_256]
  show Ideal.sqrt ((var y : ℝ) : EReal) = _
  rw [Ideal.sqrt_coe, if_neg (not_lt.2 (var_nonneg _))]

theorem least_apply : least w (ix3 n k f) = (Finset.univ : Finset (Fin 256)).fold min ⊤ fun r => w (ix4 n k r f) := by
  pointwise [least]
  rw [ofBits_top]

theorem greatest_apply : greatest w (ix3 n k f) = (Finset.univ : Finset (Fin 256)).fold max ⊥ fun r => w (ix4 n k r f) := by
  pointwise [greatest]
  rw [ofBits_bot]

/-- Counting with words: as long as the words do not overflow, the count is the number. -/
theorem word_count (g : Fin 256 → Prop) [DecidablePred g] (s : Finset (Fin 256)) :
    s.fold IntOp.addi 0#32 (fun r => BitVec.setWidth 32 (BitVec.ofBool (decide (g r)))) = BitVec.ofNat 32 (∑ r ∈ s, if g r then 1 else 0) := by
  induction s using Finset.induction_on with
  | empty => rfl
  | insert a s ha ih =>
    rw [Finset.fold_insert ha, ih, Finset.sum_insert ha]
    apply BitVec.eq_of_toNat_eq
    by_cases h : g a <;> simp [h, IntOp.addi]

theorem number_of_count (g : Fin 256 → Prop) [DecidablePred g] :
    FloatOps.sitofp (F := Ideal) .f32 (BitVec.ofNat 32 (∑ r, if g r then 1 else 0))
      = ∑ r, if g r then Ideal.ofBits .f32 0x3F800000#32 else Ideal.ofBits .f32 0x00000000#32 := by
  have hle : (∑ r, if g r then 1 else 0) ≤ 256 := by
    refine (Finset.sum_le_sum (g := fun _ => 1) fun r _ => ?_).trans (by simp)
    split <;> norm_num
  show (((BitVec.ofNat 32 _).toInt : ℝ) : EReal) = _
  rw [toInt_small (by omega), Ideal.ofBits_one_f32, Ideal.ofBits_zero_f32]
  have : ∀ r, (if g r then (1 : EReal) else 0) = (((if g r then 1 else 0 : ℝ) : ℝ) : EReal) := fun r => by split <;> rfl
  simp only [this]
  rw [coe_sum]
  push_cast
  rfl

theorem above_apply : tally .ogt w (ix3 n k f) = ∑ r : Fin 256, if mean w (ix3 n k f) < w (ix4 n k r f)
    then Ideal.ofBits .f32 0x3F800000#32 else Ideal.ofBits .f32 0x00000000#32 := by
  rw [← number_of_count, ← word_count]
  pointwise [tally, spread, lift]

theorem below_apply : tally .olt w (ix3 n k f) = ∑ r : Fin 256, if w (ix4 n k r f) < mean w (ix3 n k f)
    then Ideal.ofBits .f32 0x3F800000#32 else Ideal.ofBits .f32 0x00000000#32 := by
  rw [← number_of_count, ← word_count]
  pointwise [tally, spread, lift]

end Sums

section Quantiles

variable (s : Win) (n : Fin 64) (k : Fin 497) (f : Fin 4)

theorem last_value : Ideal.ofBits .f32 0x43800000#32 - 1 = ((255 : ℝ) : EReal) := by
  rw [ofBits_256, ← EReal.coe_one, ← EReal.coe_sub]
  norm_num

theorem rank_apply (q : Fin 3) (p : ℝ) (h : Ideal.ofBits .f32 (lit0 q) = ((p : ℝ) : EReal)) : rank (ix1 q) = ((p * 255 : ℝ) : EReal) := by
  pointwise [rank, last]
  have hq : S3.rowMajor (ix1 q) = q := Fin.ext (by simp [Shape.rowMajor_val_one])
  have e : lit0 (S3.rowMajor (ix1 q)) = lit0 q := congrArg lit0 hq
  rw [last_value, e, h, ← EReal.coe_mul]

/-- A whole rank within the window is taken as it is. -/
theorem whole_rank (x : FVec Ideal S3 .f32) (q : Fin 3) (v : ℕ) (hv : v < 256) (hx : x (ix1 q) = (((v : ℤ) : ℝ) : EReal)) :
    fptosi 32 (within x) (ix1 q) = BitVec.ofNat 32 v := by
  pointwise [within, last]
  rw [last_value, hx, max_eq_left (by norm_cast; omega), min_eq_left (by norm_cast; omega)]
  show Ideal.fptosi 32 _ = _
  unfold Ideal.fptosi
  rw [Ideal.toIntClamped_coe, if_pos (by positivity), Int.floor_intCast, min_eq_right (by norm_num; omega), max_eq_right (by norm_num)]
  exact BitVec.ofInt_natCast 32 v

/-- A quantile is the mean of the values either side of its rank, each weighted by the other's distance. -/
theorem quantile_apply (q : Fin 3) (v : ℕ) (hv : v + 1 < 256) (p : ℝ) (h0 : 0 < p) (h1 : p < 1)
    (hr : rank (ix1 q) = ((v + p : ℝ) : EReal)) :
    quantiles s (ix4 q n k f) = fiber s n k f v * ((1 - p : ℝ) : EReal) + fiber s n k f (v + 1) * ((p : ℝ) : EReal) := by
  have hfl : Host.floor rank (ix1 q) = (((v : ℤ) : ℝ) : EReal) := by
    pointwise
    rw [hr]
    show (((⌊(v : ℝ) + p⌋ : ℤ) : ℝ) : EReal) = _
    rw [show ⌊(v : ℝ) + p⌋ = (v : ℤ) from Int.floor_eq_iff.2 ⟨by push_cast; linarith, by push_cast; linarith⟩]
  have hce : Host.ceil rank (ix1 q) = ((((v + 1 : ℕ) : ℤ) : ℝ) : EReal) := by
    pointwise
    rw [hr]
    show (((⌈(v : ℝ) + p⌉ : ℤ) : ℝ) : EReal) = _
    rw [show ⌈(v : ℝ) + p⌉ = ((v + 1 : ℕ) : ℤ) from Int.ceil_eq_iff.2 ⟨by push_cast; linarith, by push_cast; linarith⟩]
  have hp : part (ix1 q) = ((p : ℝ) : EReal) := by
    show rank (ix1 q) - Host.floor rank (ix1 q) = _
    rw [hr, hfl, ← EReal.coe_sub]
    exact congrArg _ (by push_cast; ring)
  have hlo := taken_apply n k f s (Host.floor rank) q v (by omega) (whole_rank _ q v (by omega) hfl)
  have hhi := taken_apply n k f s (Host.ceil rank) q (v + 1) hv (whole_rank _ q (v + 1) hv hce)
  pointwise [quantiles, weight]
  rw [hlo, hhi, hp, ← EReal.coe_one, ← EReal.coe_sub, ← fiber_val s n k f, ← fiber_val s n k f]

end Quantiles

section Places

variable (n : Fin 64) (k : Fin 497)

theorem first_apply (f : Fin 4) (q : FVec Ideal S3x64x497x4 .f32) : first q (ix3 n k f) = q (ix4 0 n k f) := by pointwise [first]
theorem second_apply (f : Fin 4) (q : FVec Ideal S3x64x497x4 .f32) : second q (ix3 n k f) = q (ix4 1 n k f) := by pointwise [second]
theorem third_apply (f : Fin 4) (q : FVec Ideal S3x64x497x4 .f32) : third q (ix3 n k f) = q (ix4 2 n k f) := by pointwise [third]

/-- One of eight numbers. -/
def pick (a b c d e f g h : EReal) : ℕ → EReal
  | 0 => a
  | 1 => b
  | 2 => c
  | 3 => d
  | 4 => e
  | 5 => f
  | 6 => g
  | _ => h

theorem stacked_apply (a b c d e f g h : Col) (j : Fin 32) (i : Fin 4) (hi : i.val = j.val / 8) :
    stacked a b c d e f g h (ix3 n k j) = pick (a (ix3 n k i)) (b (ix3 n k i)) (c (ix3 n k i)) (d (ix3 n k i)) (e (ix3 n k i))
      (f (ix3 n k i)) (g (ix3 n k i)) (h (ix3 n k i)) (j.val % 8) := by
  have hi' : ∀ h : j.val / 8 < 4, (⟨j.val / 8, h⟩ : Fin 4) = i := fun _ => Fin.ext hi.symm
  unfold stacked Value.fn_main_v50
  pointwise
  simp only [hi', dite_eq_ite]
  have ht : j.val % 8 < 8 := Nat.mod_lt _ (by norm_num)
  generalize j.val % 8 = t at ht ⊢
  interval_cases t <;> rfl

end Places

end Cert.Proof.Ref
-- ==== Proof.Agree.lean ====
/- The kernel and the reference compute the same statistics of an argument whose values are all finite. -/
module

public import proofs.«01_k».proof.Pre_finite
public import proofs.«01_k».proof.Proof.Whole
public import proofs.«01_k».proof.Proof.Stats

@[expose] public section

noncomputable section

set_option maxRecDepth 16384

namespace Cert.Proof.Agree

open Idealize.ShloMosaic Cert.Proof.Sort Cert.Proof.Columns Cert.Proof.Tile Cert.Proof.Block Cert.Proof.Window Cert.Proof.Whole Cert.Proof.Ref

instance preFacts : Cert.Pre_finite.Facts where
  bcast_S_S64x8192x4 := by decide

/-- The shape of the argument. -/
abbrev Arg : Type := FVec Ideal Cert.Pre_finite.S64x8192x4 .f32

theorem real_of_abs {a : EReal} (h : max a (-a) < ⊤) : ∃ r : ℝ, a = ((r : ℝ) : EReal) := by
  induction a with
  | bot => simp at h
  | top => simp at h
  | coe r => exact ⟨r, rfl⟩

/-- The precondition says that every value is a real number. -/
theorem real_of_finite (x : Arg) (h : Cert.Pre_finite.fn (F := Ideal) x = fun _ => 1#1) (j : Cert.Pre_finite.S64x8192x4.Idx) :
    ∃ a : ℝ, x j = ((a : ℝ) : EReal) := by
  have := congrFun h j
  idx_vars j
  revert this
  unfold Cert.Pre_finite.fn
  pointwise
  rw [ofBits_top]
  intro h
  have hlt : (FloatOps.absf (F := Ideal) (φ := .f32) (x (ix3 j0 j1 j2)) : EReal) < ⊤ := by
    by_contra hn
    rw [decide_eq_false hn] at h
    exact absurd h (by decide)
  exact real_of_abs hlt

variable {x : Arg} (hx : ∀ j, ∃ a : ℝ, x j = ((a : ℝ) : EReal))

/-- The real values, by column and row. -/
def realOf (x : Arg) (n f c r : ℕ) : ℝ := (chanOf x n f c r).toReal

include hx in
theorem chan_real (n f c r : ℕ) : chanOf x n f c r = ((realOf x n f c r : ℝ) : EReal) := by
  unfold realOf chanOf
  split
  · obtain ⟨a, ha⟩ := hx (ix3 ⟨n, by omega⟩ ⟨16 * c + r, by omega⟩ ⟨f, by omega⟩)
    rw [ha, EReal.toReal_coe]
  · rw [EReal.toReal_zero, EReal.coe_zero]

variable (n : Fin 64) (k : Fin 497) (f : Fin 4)

/-- The reference's windows are the kernel's. -/
theorem win_chan (r : Fin 256) : win x (ix4 n k r f) = at_ (chanOf x n.val f.val) k.val r.val := by
  rw [win_apply]
  unfold at_ chanOf
  rw [dif_pos ⟨n.isLt, f.isLt, by omega, by omega⟩]
  have e : 16 * k.val + r.val = 16 * (k.val + r.val / 16) + r.val % 16 := by omega
  congr 2
  exact Fin.ext e

include hx in
theorem win_real (r : Fin 256) : win x (ix4 n k r f) = ((at_ (realOf x n.val f.val) k.val r.val : ℝ) : EReal) := by
  rw [win_chan]
  exact chan_real hx _ _ _ _

theorem fiber_chan : vals 256 (fiber (win x) n k f) = vals 256 (at_ (chanOf x n.val f.val) k.val) :=
  vals_congr fun i hi => (fiber_val (win x) n k f ⟨i, hi⟩).trans (win_chan n k f ⟨i, hi⟩)

/-- The values in order, in the kernel and in the reference. -/
def inOrder (x : Arg) (n : Fin 64) (k : Fin 497) (f : Fin 4) : ℕ → EReal :=
  merge 7 (P128 (chanOf x n.val f.val) k.val) (P128 (chanOf x n.val f.val) (k.val + 8))

theorem order_eq (i : ℕ) (hi : i < 256) : inOrder x n k f i = fiber (ordered (win x)) n k f i :=
  sorted_unique _ _ (ordered_mono (win x) n k f) ((ordered_vals (win x) n k f).trans (fiber_chan n k f)) hi

include hx in
theorem order_real (i : ℕ) (hi : i < 256) : ∃ a : ℝ, inOrder x n k f i = ((a : ℝ) : EReal) := by
  have h := vals_sorted (chanOf x n.val f.val) k.val
  have hm : inOrder x n k f i ∈ vals 256 (inOrder x n k f) := mem_vals.2 ⟨i, hi, rfl⟩
  unfold inOrder at hm ⊢
  rw [h, mem_vals] at hm
  obtain ⟨r, _, e⟩ := hm
  exact ⟨_, e.symm.trans (chan_real hx _ _ _ _)⟩

theorem rank_first : rank (ix1 0) = (((63 : ℕ) + 3 / 4 : ℝ) : EReal) := by
  rw [rank_apply 0 (1 / 4) ofBits_quarter]
  congr 1
  norm_num

theorem rank_second : rank (ix1 1) = (((127 : ℕ) + 1 / 2 : ℝ) : EReal) := by
  rw [rank_apply 1 (1 / 2) ofBits_half]
  congr 1
  norm_num

theorem rank_third : rank (ix1 2) = (((191 : ℕ) + 1 / 4 : ℝ) : EReal) := by
  rw [rank_apply 2 (3 / 4) ofBits_three_quarters]
  congr 1
  norm_num

include hx in
theorem median_eq : Ideal.ofBits .f32 0x3F000000#32 * (inOrder x n k f 127 + inOrder x n k f 128)
    = second (quantiles (ordered (win x))) (ix3 n k f) := by
  rw [second_apply, quantile_apply _ n k f 1 127 (by norm_num) (1 / 2) (by norm_num) (by norm_num) rank_second,
    ← order_eq n k f 127 (by norm_num), ← order_eq n k f 128 (by norm_num), ofBits_half]
  obtain ⟨a, ha⟩ := order_real hx n k f 127 (by norm_num)
  obtain ⟨b, hb⟩ := order_real hx n k f 128 (by norm_num)
  rw [ha, hb]
  norm_cast
  ring

include hx in
theorem spread_eq : (Ideal.ofBits .f32 0x3F400000#32 * inOrder x n k f 191 + Ideal.ofBits .f32 0x3E800000#32 * inOrder x n k f 192)
      - (Ideal.ofBits .f32 0x3E800000#32 * inOrder x n k f 63 + Ideal.ofBits .f32 0x3F400000#32 * inOrder x n k f 64)
    = third (quantiles (ordered (win x))) (ix3 n k f) - first (quantiles (ordered (win x))) (ix3 n k f) := by
  rw [third_apply, first_apply, quantile_apply _ n k f 2 191 (by norm_num) (1 / 4) (by norm_num) (by norm_num) rank_third,
    quantile_apply _ n k f 0 63 (by norm_num) (3 / 4) (by norm_num) (by norm_num) rank_first,
    ← order_eq n k f 191 (by norm_num), ← order_eq n k f 192 (by norm_num), ← order_eq n k f 63 (by norm_num),
    ← order_eq n k f 64 (by norm_num), ofBits_quarter, ofBits_three_quarters]
  obtain ⟨a, ha⟩ := order_real hx n k f 191 (by norm_num)
  obtain ⟨b, hb⟩ := order_real hx n k f 192 (by norm_num)
  obtain ⟨c, hc⟩ := order_real hx n k f 63 (by norm_num)
  obtain ⟨d, hd⟩ := order_real hx n k f 64 (by norm_num)
  rw [ha, hb, hc, hd]
  norm_cast
  ring

/-- Eight statistics equal to eight numbers. -/
theorem rowOf_pick {m sd : EReal} {x y : ℕ → EReal} {c0 c1 c2 c3 c4 c5 c6 c7 : EReal} (h0 : m = c0) (h1 : sd = c1)
    (h2 : x 0 ⊓ x 255 = c2) (h3 : x 127 ⊔ x 128 = c3) (h4 : Ideal.ofBits .f32 0x3F000000#32 * (y 127 + y 128) = c4)
    (h5 : (Ideal.ofBits .f32 0x3F400000#32 * y 191 + Ideal.ofBits .f32 0x3E800000#32 * y 192)
      - (Ideal.ofBits .f32 0x3E800000#32 * y 63 + Ideal.ofBits .f32 0x3F400000#32 * y 64) = c5)
    (h6 : (∑ r : Fin 256, if m < x r.val then Ideal.ofBits .f32 0x3F800000#32 else Ideal.ofBits .f32 0x00000000#32) = c6)
    (h7 : (∑ r : Fin 256, if x r.val < m then Ideal.ofBits .f32 0x3F800000#32 else Ideal.ofBits .f32 0x00000000#32) = c7)
    (b : ℕ) (hb : b < 8) : rowOf m sd x y b = pick c0 c1 c2 c3 c4 c5 c6 c7 b := by
  match b, hb with
  | 0, _ => exact h0
  | 1, _ => exact h1
  | 2, _ => exact h2
  | 3, _ => exact h3
  | 4, _ => exact h4
  | 5, _ => exact h5
  | 6, _ => exact h6
  | 7, _ => exact h7

include hx in
/-- The eight statistics of one window. -/
theorem stat_eq (b : ℕ) (hb : b < 8) : stat (chanOf x n.val f.val) k.val b =
    pick (mean (win x) (ix3 n k f)) (std (win x) (ix3 n k f)) (least (win x) (ix3 n k f)) (greatest (win x) (ix3 n k f))
      (second (quantiles (ordered (win x))) (ix3 n k f))
      (third (quantiles (ordered (win x))) (ix3 n k f) - first (quantiles (ordered (win x))) (ix3 n k f))
      (tally .ogt (win x) (ix3 n k f)) (tally .olt (win x) (ix3 n k f)) b := by
  have h0 : meanOf (fun c => colSum (chanOf x n.val f.val c)) k.val = mean (win x) (ix3 n k f) :=
    (mean_eq (chan_real hx n.val f.val) k.val).trans (mean_apply (win_real hx n k f)).symm
  have h1 := (std_eq (chan_real hx n.val f.val) k.val).trans (std_apply (win_real hx n k f)).symm
  have h2 := least_eq (chanOf x n.val f.val) k.val
  have h3 := greatest_eq (chanOf x n.val f.val) k.val
  have h4 := median_eq hx n k f
  have h5 := spread_eq hx n k f
  have h6 := sum_bitonic (chanOf x n.val f.val) k.val fun a => if mean (win x) (ix3 n k f) < a
      then Ideal.ofBits .f32 0x3F800000#32 else Ideal.ofBits .f32 0x00000000#32
  have h7 := sum_bitonic (chanOf x n.val f.val) k.val fun a => if a < mean (win x) (ix3 n k f)
      then Ideal.ofBits .f32 0x3F800000#32 else Ideal.ofBits .f32 0x00000000#32
  beta_reduce at h6 h7
  simp only [← win_chan] at h2 h3 h6 h7
  rw [← least_apply] at h2
  rw [← greatest_apply] at h3
  rw [← above_apply] at h6
  rw [← below_apply] at h7
  unfold inOrder at h4 h5
  unfold stat
  rw [h0]
  exact rowOf_pick rfl h1 h2 h3 h4 h5 h6 h7 b hb

theorem subf_at (a b : Col) (j : Cert.ReferenceIdeal.S64x497x4.Idx) : subf a b j = (a j : EReal) - (b j : EReal) := rfl

include hx in
/-- What the kernel computes is what the reference computes. -/
theorem agree : result x = Ref.whole (win x) := by
  funext j
  idx_vars j
  have hi : (⟨j2.val / 8, by omega⟩ : Fin 4).val = j2.val / 8 := rfl
  have hr : result x (ix3 j0 j1 j2) = stat (chanOf x j0.val (j2.val / 8)) j1.val (j2.val % 8) := by
    unfold result
    rfl
  refine hr.trans ((stat_eq hx j0 j1 ⟨j2.val / 8, by omega⟩ (j2.val % 8) (Nat.mod_lt _ (by norm_num))).trans ?_)
  unfold Ref.whole
  refine Eq.trans ?_ (stacked_apply j0 j1 _ _ _ _ _ _ _ _ j2 ⟨j2.val / 8, by omega⟩ hi).symm
  rw [subf_at]

end Cert.Proof.Agree
-- ==== Proof.lean ====
/- The proof of the certificate's claims: the frames of the kernel, of its idealization and of the reference, and the
   agreement of the two idealizations on every argument whose values are all finite. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Pre_finite
public import proofs.«01_k».proof.Proof.Whole
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The reference runs to the end, leaves its argument as it was, and declares no semaphore. -/
theorem frame_reference : Cert.quiescent_ReferenceIdeal := fun m ρ _ =>
  (θ_run Cert.ReferenceIdeal.defs _ _).mono (fun r h => ⟨fun c => (h c).2,
    Idealize.ShloMosaic.sem_eq_zero_of_no_sems (by decide) r.2⟩)
    (Cert.ReferenceIdeal.Value.run (F := Ideal) m ρ)

/-- From an argument whose values are all finite, the kernel and the reference end with the same statistics. -/
theorem same_statistics : Cert.algebraic_KernelIdeal_ReferenceIdeal_pre_finite := by
  intro m g m' g' hpre harg
  refine ⟨fun c => Whole.result (m ((c.tc : Thread Cert.KernelIdeal.nD Cert.KernelIdeal.τ).loc Cert.KernelIdeal.main_arg0)),
    Whole.run m g, ?_⟩
  refine (θ_run Cert.ReferenceIdeal.defs _ _).mono (fun r h c => ⟨(h c).1.trans ?_, (h c).2⟩)
    (Cert.ReferenceIdeal.Value.run (F := Ideal) m' g')
  rw [Ref.res_eq]
  refine (congrArg (fun x => Ref.whole (Ref.win x)) (harg c)).trans ?_
  exact (Agree.agree (Agree.real_of_finite _ (hpre c))).symm

/-- The certificate's claims, in the order in which they are stated. -/
theorem claim : Cert.Claim :=
  ⟨Cert.Kernel.Gen.facts, Cert.KernelIdeal.Gen.facts, Cert.ReferenceIdeal.Gen.facts, Agree.preFacts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    trivial, same_statistics⟩

end Cert.Proof

end
